-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top32_decided [hPre_top32_decided : Cert.Pre_top32_decided.Facts] (m : (ℓ : Loc Cert.KernelIdeal.nD Cert.KernelIdeal.τ Cert.KernelIdeal.sig) → Buf (Elt Ideal) ℓ) : Prop :=
  ∀ c : Dev Cert.KernelIdeal.nD,
    (Cert.Pre_top32_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top32_decided [hPre_top32_decided : Cert.Pre_top32_decided.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top32_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_top32_decided [hKernelIdeal : Cert.KernelIdeal.Facts] [hPre_top32_decided : Cert.Pre_top32_decided.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top32_decided m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_top32_decided [hReferenceIdeal : Cert.ReferenceIdeal.Facts] [hPre_top32_decided : Cert.Pre_top32_decided.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top32_decided m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_top32_decided [hKernelIdeal : Cert.KernelIdeal.Facts] [hReferenceIdeal : Cert.ReferenceIdeal.Facts] [hPre_top32_decided : Cert.Pre_top32_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top32_decided m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_top32_decided : Cert.Pre_top32_decided.Facts),
    quiescent_Kernel (hKernel := hKernel)
    ∧ quiescent_KernelIdeal (hKernelIdeal := hKernelIdeal)
    ∧ quiescent_KernelIdeal_pre_top32_decided (hKernelIdeal := hKernelIdeal) (hPre_top32_decided := hPre_top32_decided)
    ∧ quiescent_ReferenceIdeal (hReferenceIdeal := hReferenceIdeal)
    ∧ quiescent_ReferenceIdeal_pre_top32_decided (hReferenceIdeal := hReferenceIdeal) (hPre_top32_decided := hPre_top32_decided)
    ∧ preserves_Kernel_KernelIdeal
    ∧ algebraic_KernelIdeal_ReferenceIdeal_pre_top32_decided (hKernelIdeal := hKernelIdeal) (hReferenceIdeal := hReferenceIdeal) (hPre_top32_decided := hPre_top32_decided)
-- ==== Pre_top32_decided.lean ====
abbrev S2x512x128 : Shape := ⟨3, ![2, 512, 128]⟩
abbrev S65536x128 : Shape := ⟨2, ![65536, 128]⟩
abbrev S128x128 : Shape := ⟨2, ![128, 128]⟩
abbrev S128 : Shape := ⟨1, ![128]⟩
abbrev S1024x128 : Shape := ⟨2, ![1024, 128]⟩
abbrev S128x65536 : Shape := ⟨2, ![128, 65536]⟩
abbrev S1024x65536 : Shape := ⟨2, ![1024, 65536]⟩
abbrev S1024x33 : Shape := ⟨2, ![1024, 33]⟩
abbrev S1024x1 : Shape := ⟨2, ![1024, 1]⟩
abbrev S1024 : Shape := ⟨1, ![1024]⟩

class Facts : Prop where
  shapeCasts_S2x512x128_S1024x128 : S2x512x128.ShapeCasts S1024x128
  transposes_S65536x128_S128x65536_1_0 : S65536x128.Transposes [1, 0] S128x65536
  sliceFits_S1024x65536_S1024x33 : S1024x65536.Slices (fun _ => 0) S1024x33
  slices_S1024x33_S1024x1_0_31 : S1024x33.Slices ![0, 31] S1024x1
  shapeCasts_S1024x1_S1024 : S1024x1.ShapeCasts S1024
  slices_S1024x33_S1024x1_0_32 : S1024x33.Slices ![0, 32] S1024x1
  dot_S1024x128_S128x65536_S1024x65536_1_0_0_1_n_n_wf : DotDims.WF S1024x128 S128x65536 S1024x65536 [1] [0] [0] [1] [] []

variable [Facts]

def dot_S1024x128_S128x65536_S1024x65536_1_0_0_1_n_n : DotDims S1024x128 S128x65536 S1024x65536 where
  lhsContracting := [1]
  rhsContracting := [0]
  lhsNonContracting := [0]
  rhsNonContracting := [1]
  lhsBatch := []
  rhsBatch := []
  wf := dot_S1024x128_S128x65536_S1024x65536_1_0_0_1_n_n_wf
def fn {F : FTy → Type} [FloatOps F] (main_arg0 : FVec F S2x512x128 .f32) (main_arg1 : FVec F S65536x128 .f32) (main_arg2 : FVec F S65536x128 .f32) (main_arg3 : FVec F S128x128 .f32) (main_arg4 : FVec F S128 .f32) (main_arg5 : FVec F S128 .f32) (main_arg6 : FVec F S128 .f32) (main_arg7 : FVec F S128x128 .f32) (main_arg8 : FVec F S128 .f32) : IVec S1024 1 :=
  let main_v0 : FVec F S1024x128 .f32 := shapeCast S1024x128 main_arg0 shapeCasts_S2x512x128_S1024x128
  let main_v1 : FVec F S128x65536 .f32 := (transpose S128x65536 [1, 0] · transposes_S65536x128_S128x65536_1_0) main_arg1
  let main_v2 : FVec F S1024x65536 .f32 := (fun l r => Host.dotGeneral dot_S1024x128_S128x65536_S1024x65536_1_0_0_1_n_n none l r) main_v0 main_v1
  let main_values : FVec F S1024x33 .f32 := (fun x => (Host.topK S1024x33 1 (FloatOps.cmpfTotal .gt) x sliceFits_S1024x65536_S1024x33).1) main_v2
  let main_indices : IVec S1024x33 32 := (fun x => (Host.topK S1024x33 1 (FloatOps.cmpfTotal .gt) x sliceFits_S1024x65536_S1024x33).2) main_v2
  let main_v3 : FVec F S1024x1 .f32 := (extractStridedSlice S1024x1 ![0, 31] · slices_S1024x33_S1024x1_0_31) main_values
  let main_v4 : FVec F S1024 .f32 := shapeCast S1024 main_v3 shapeCasts_S1024x1_S1024
  let main_v5 : FVec F S1024x1 .f32 := (extractStridedSlice S1024x1 ![0, 32] · slices_S1024x33_S1024x1_0_32) main_values
  let main_v6 : FVec F S1024 .f32 := shapeCast S1024 main_v5 shapeCasts_S1024x1_S1024
  let main_v7 : IVec S1024 1 := cmpf .ogt main_v4 main_v6
  main_v7
-- ==== Kernel.lean ====
abbrev S2x512x128 : Shape := ⟨3, ![2, 512, 128]⟩
abbrev S65536x128 : Shape := ⟨2, ![65536, 128]⟩
abbrev S128x128 : Shape := ⟨2, ![128, 128]⟩
abbrev S128 : Shape := ⟨1, ![128]⟩
abbrev S1024x128 : Shape := ⟨2, ![1024, 128]⟩
abbrev S1024x65536 : Shape := ⟨2, ![1024, 65536]⟩
abbrev S1024x4096 : Shape := ⟨2, ![1024, 4096]⟩
abbrev S1024x256 : Shape := ⟨2, ![1024, 256]⟩
abbrev S4096x128 : Shape := ⟨2, ![4096, 128]⟩
abbrev S1024x512 : Shape := ⟨2, ![1024, 512]⟩
abbrev S1024x32 : Shape := ⟨2, ![1024, 32]⟩
abbrev S1024 : Shape := ⟨1, ![1024]⟩
abbrev S1024x1 : Shape := ⟨2, ![1024, 1]⟩
abbrev S32x512 : Shape := ⟨2, ![32, 512]⟩
abbrev S4194304 : Shape := ⟨1, ![4194304]⟩
abbrev S524288 : Shape := ⟨1, ![524288]⟩
abbrev S524288x1 : Shape := ⟨2, ![524288, 1]⟩
abbrev S_ : Shape := ⟨0, ![]⟩
abbrev S1024x512x1 : Shape := ⟨3, ![1024, 512, 1]⟩
abbrev S32768 : Shape := ⟨1, ![32768]⟩
abbrev S32768x1 : Shape := ⟨2, ![32768, 1]⟩
abbrev S32768x128 : Shape := ⟨2, ![32768, 128]⟩
abbrev S1x128 : Shape := ⟨2, ![1, 128]⟩
abbrev S8192x128 : Shape := ⟨2, ![8192, 128]⟩
abbrev S256x32 : Shape := ⟨2, ![256, 32]⟩
abbrev S256x128 : Shape := ⟨2, ![256, 128]⟩
abbrev S256x32x128 : Shape := ⟨3, ![256, 32, 128]⟩
abbrev S256x32x1 : Shape := ⟨3, ![256, 32, 1]⟩
abbrev S256 : Shape := ⟨1, ![256]⟩
abbrev S256x1 : Shape := ⟨2, ![256, 1]⟩

abbrev nBuf : Space → Nat
  | .hbm => 40
  | .vmem => 40
  | .smem => 0
  | _ => 0

abbrev bufTy : (tb : Table) → Fin (tcTables nBuf tb) → BufTy
  | .hbm, ⟨0, _⟩ => ⟨S2x512x128, .f32⟩
  | .hbm, ⟨1, _⟩ => ⟨S65536x128, .f32⟩
  | .hbm, ⟨2, _⟩ => ⟨S65536x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1024x128, .f32⟩
  | .hbm, ⟨10, _⟩ => ⟨S1024x65536, .f32⟩
  | .hbm, ⟨11, _⟩ => ⟨S1024x4096, .f32⟩
  | .hbm, ⟨12, _⟩ => ⟨S1024x256, .f32⟩
  | .hbm, ⟨13, _⟩ => ⟨S1024x512, .i32⟩
  | .hbm, ⟨14, _⟩ => ⟨S4194304, .f32⟩
  | .hbm, ⟨15, _⟩ => ⟨S524288, .i32⟩
  | .hbm, ⟨16, _⟩ => ⟨S524288x1, .i32⟩
  | .hbm, ⟨17, _⟩ => ⟨S524288, .f32⟩
  | .hbm, ⟨18, _⟩ => ⟨S1024x512, .f32⟩
  | .hbm, ⟨19, _⟩ => ⟨S1024x512, .i32⟩
  | .hbm, ⟨20, _⟩ => ⟨S_, .i32⟩
  | .hbm, ⟨21, _⟩ => ⟨S1024x512, .i32⟩
  | .hbm, ⟨22, _⟩ => ⟨S1024x512, .i1⟩
  | .hbm, ⟨23, _⟩ => ⟨S_, .i32⟩
  | .hbm, ⟨24, _⟩ => ⟨S1024x512, .i32⟩
  | .hbm, ⟨25, _⟩ => ⟨S1024x512, .i32⟩
  | .hbm, ⟨26, _⟩ => ⟨S1024x512, .i32⟩
  | .hbm, ⟨27, _⟩ => ⟨S1024x512x1, .i32⟩
  | .hbm, ⟨28, _⟩ => ⟨S1024x512, .f32⟩
  | .hbm, ⟨29, _⟩ => ⟨S1024x32, .f32⟩
  | .hbm, ⟨30, _⟩ => ⟨S1024x32, .i32⟩
  | .hbm, ⟨31, _⟩ => ⟨S32768, .i32⟩
  | .hbm, ⟨32, _⟩ => ⟨S32768x1, .i32⟩
  | .hbm, ⟨33, _⟩ => ⟨S32768x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1024x128, .f32⟩
  | .hbm, ⟨39, _⟩ => ⟨S2x512x128, .f32⟩
  | .local _ .vmem, ⟨0, _⟩ => ⟨S1024x128, .f32⟩
  | .local _ .vmem, ⟨1, _⟩ => ⟨S4096x128, .f32⟩
  | .local _ .vmem, ⟨2, _⟩ => ⟨S4096x128, .f32⟩
  | .local _ .vmem, ⟨3, _⟩ => ⟨S1024x4096, .f32⟩
  | .local _ .vmem, ⟨4, _⟩ => ⟨S1024x4096, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x512, .i32⟩
  | .local _ .vmem, ⟨10, _⟩ => ⟨S1024x256, .f32⟩
  | .local _ .vmem, ⟨11, _⟩ => ⟨S1024x32, .f32⟩
  | .local _ .vmem, ⟨12, _⟩ => ⟨S1024x32, .i32⟩
  | .local _ .vmem, ⟨13, _⟩ => ⟨S1024x512, .f32⟩
  | .local _ .vmem, ⟨14, _⟩ => ⟨S1024x512, .i32⟩
  | .local _ .vmem, ⟨15, _⟩ => ⟨S1024x512, .i32⟩
  | .local _ .vmem, ⟨16, _⟩ => ⟨S1024x512, .f32⟩
  | .local _ .vmem, ⟨17, _⟩ => ⟨S1024x32, .f32⟩
  | .local _ .vmem, ⟨18, _⟩ => ⟨S1024x32, .i32⟩
  | .local _ .vmem, ⟨19, _⟩ => ⟨S1024x512, .f32⟩
  | .local _ .vmem, ⟨20, _⟩ => ⟨S1024x512, .i32⟩
  | .local _ .vmem, ⟨21, _⟩ => ⟨S1024x32, .f32⟩
  | .local _ .vmem, ⟨22, _⟩ => ⟨S1024x32, .i32⟩
  | .local _ .vmem, ⟨23, _⟩ => ⟨S1024x512, .f32⟩
  | .local _ .vmem, ⟨24, _⟩ => ⟨S1024x32, .f32⟩
  | .local _ .vmem, ⟨25, _⟩ => ⟨S1024x32, .i32⟩
  | .local _ .vmem, ⟨26, _⟩ => ⟨S8192x128, .f32⟩
  | .local _ .vmem, ⟨27, _⟩ => ⟨S8192x128, .f32⟩
  | .local _ .vmem, ⟨28, _⟩ => ⟨S256x32, .f32⟩
  | .local _ .vmem, ⟨29, _⟩ => ⟨S256x32, .f32⟩
  | .local _ .vmem, ⟨30, _⟩ => ⟨S256x128, .f32⟩
  | .local _ .vmem, ⟨31, _⟩ => ⟨S256x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S256x128, .f32⟩
  | .local _ .vmem, ⟨39, _⟩ => ⟨S256x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v10 : Ref sig .tc := ⟨.hbm, 31, rfl⟩
abbrev main_call2_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_scratch0 : Ref sig .tc := ⟨.vmem, 16, rfl⟩
abbrev cc2_scratch1 : Ref sig .tc := ⟨.vmem, 17, rfl⟩
abbrev cc2_scratch2 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_scratch0 : Ref sig .tc := ⟨.vmem, 23, rfl⟩
abbrev cc3_scratch1 : Ref sig .tc := ⟨.vmem, 24, rfl⟩
abbrev cc3_scratch2 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg7_0 : Ref sig .tc := ⟨.vmem, 36, rfl⟩
abbrev cc4_stg8_0 : Ref sig .tc := ⟨.vmem, 37, rfl⟩
abbrev cc4_stg9_0 : Ref sig .tc := ⟨.vmem, 38, rfl⟩
abbrev cc4_stg9_1 : Ref sig .tc := ⟨.vmem, 39, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem1_0 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem2_0 : DmaSem sig := 15
abbrev cc3_sem3_0 : DmaSem sig := 16
abbrev cc4_sem0_0 : DmaSem sig := 17
abbrev cc4_sem0_1 : DmaSem sig := 18
abbrev cc4_sem1_0 : DmaSem sig := 19
abbrev cc4_sem1_1 : DmaSem sig := 20
abbrev cc4_sem2_0 : DmaSem sig := 21
abbrev cc4_sem2_1 : DmaSem sig := 22
abbrev cc4_sem3_0 : DmaSem sig := 23
abbrev cc4_sem4_0 : DmaSem sig := 24
abbrev cc4_sem5_0 : DmaSem sig := 25
abbrev cc4_sem6_0 : DmaSem sig := 26
abbrev cc4_sem7_0 : DmaSem sig := 27
abbrev cc4_sem8_0 : DmaSem sig := 28
abbrev cc4_sem9_0 : DmaSem sig := 29
abbrev cc4_sem9_1 : DmaSem sig := 30

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_7 : BitVec 32 := 0#32
  let v39 : BitVec 1 := Scalar.cmpi .ne v38 c0_i32_7
  v39

def k0_cond2 (i : grid0.Coords) : BitVec 1 :=
  let arg0 : BitVec 32 := BitVec.ofNat 32 (i 0).val
  let c0_i32_8 : BitVec 32 := 0#32
  let v40 : BitVec 1 := Scalar.cmpi .sgt arg0 c0_i32_8
  let v41 : BitVec 32 := Scalar.extui v40
  let c0_i32_9 : BitVec 32 := 0#32
  let v42 : BitVec 1 := Scalar.cmpi .ne v41 c0_i32_9
  v42

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

@[reducible] def k1_t1_loop : Scf.Loop 32 :=
  let c0_i32 : BitVec 32 := 0#32
  let c32_i32 : BitVec 32 := 32#32
  let v7 : BitVec 32 := Scalar.addi c0_i32 c32_i32
  let c1_i32 : BitVec 32 := 1#32
  ⟨c0_i32, v7, c1_i32⟩
abbrev stage1_0 : Fin 1 → Memref sig .tc .vmem S1024x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x512 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c32_i32 : BitVec 32 := 32#32
  let v8 : BitVec 32 := Scalar.addi c0_i32 c32_i32
  let c1_i32 : BitVec 32 := 1#32
  ⟨c0_i32, v8, c1_i32⟩
abbrev stage2_0 : Fin 1 → Memref sig .tc .vmem S1024x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x512 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x512 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

@[reducible] def k3_t1_loop : Scf.Loop 32 :=
  let c0_i32 : BitVec 32 := 0#32
  let c32_i32 : BitVec 32 := 32#32
  let v8 : BitVec 32 := Scalar.addi c0_i32 c32_i32
  let c1_i32 : BitVec 32 := 1#32
  ⟨c0_i32, v8, c1_i32⟩
abbrev stage3_0 : Fin 1 → Memref sig .tc .vmem S1024x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x512 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1024x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x32 .i32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S256x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]
-- ==== ReferenceIdeal.lean ====
abbrev S2x512x128 : Shape := ⟨3, ![2, 512, 128]⟩
abbrev S65536x128 : Shape := ⟨2, ![65536, 128]⟩
abbrev S128x128 : Shape := ⟨2, ![128, 128]⟩
abbrev S128 : Shape := ⟨1, ![128]⟩
abbrev S1024x128 : Shape := ⟨2, ![1024, 128]⟩
abbrev S128x65536 : Shape := ⟨2, ![128, 65536]⟩
abbrev S1024x65536 : Shape := ⟨2, ![1024, 65536]⟩
abbrev S1024x32 : Shape := ⟨2, ![1024, 32]⟩
abbrev S_ : Shape := ⟨0, ![]⟩
abbrev S1024x32x1 : Shape := ⟨3, ![1024, 32, 1]⟩
abbrev S1 : Shape := ⟨1, ![1]⟩
abbrev S1x1x1 : Shape := ⟨3, ![1, 1, 1]⟩
abbrev S1024x32x128 : Shape := ⟨3, ![1024, 32, 128]⟩
abbrev S1024 : Shape := ⟨1, ![1024]⟩
abbrev S1024x1 : Shape := ⟨2, ![1024, 1]⟩
abbrev S1x1x128 : Shape := ⟨3, ![1, 1, 128]⟩
abbrev S2x512 : Shape := ⟨2, ![2, 512]⟩
abbrev S2x512x1 : Shape := ⟨3, ![2, 512, 1]⟩

abbrev nBuf : Space → Nat
  | .hbm => 113
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S65536x128, .f32⟩
  | .hbm, ⟨2, _⟩ => ⟨S65536x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1024x128, .f32⟩
  | .hbm, ⟨10, _⟩ => ⟨S128x65536, .f32⟩
  | .hbm, ⟨11, _⟩ => ⟨S1024x65536, .f32⟩
  | .hbm, ⟨12, _⟩ => ⟨S1024x32, .f32⟩
  | .hbm, ⟨13, _⟩ => ⟨S1024x32, .i32⟩
  | .hbm, ⟨14, _⟩ => ⟨S_, .i32⟩
  | .hbm, ⟨15, _⟩ => ⟨S1024x32, .i32⟩
  | .hbm, ⟨16, _⟩ => ⟨S1024x32, .i1⟩
  | .hbm, ⟨17, _⟩ => ⟨S_, .i32⟩
  | .hbm, ⟨18, _⟩ => ⟨S1024x32, .i32⟩
  | .hbm, ⟨19, _⟩ => ⟨S1024x32, .i32⟩
  | .hbm, ⟨20, _⟩ => ⟨S1024x32, .i32⟩
  | .hbm, ⟨21, _⟩ => ⟨S1024x32x1, .i32⟩
  | .hbm, ⟨22, _⟩ => ⟨S1, .i32⟩
  | .hbm, ⟨23, _⟩ => ⟨S_, .i32⟩
  | .hbm, ⟨24, _⟩ => ⟨S1024x32x1, .i32⟩
  | .hbm, ⟨25, _⟩ => ⟨S1024x32x1, .i1⟩
  | .hbm, ⟨26, _⟩ => ⟨S1x1x1, .i32⟩
  | .hbm, ⟨27, _⟩ => ⟨S1024x32x1, .i32⟩
  | .hbm, ⟨28, _⟩ => ⟨S1024x32x1, .i1⟩
  | .hbm, ⟨29, _⟩ => ⟨S1024x32x1, .i1⟩
  | .hbm, ⟨30, _⟩ => ⟨S_, .i1⟩
  | .hbm, ⟨31, _⟩ => ⟨S1024x32, .i1⟩
  | .hbm, ⟨32, _⟩ => ⟨S1024x32x128, .f32⟩
  | .hbm, ⟨33, _⟩ => ⟨S1024x32x128, .i1⟩
  | .hbm, ⟨34, _⟩ => ⟨S_, .f32⟩
  | .hbm, ⟨35, _⟩ => ⟨S1024x32x128, .f32⟩
  | .hbm, ⟨36, _⟩ => ⟨S1024x32x128, .f32⟩
  | .hbm, ⟨37, _⟩ => ⟨S_, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024x1, .f32⟩
  | .hbm, ⟨43, _⟩ => ⟨S1024x32, .f32⟩
  | .hbm, ⟨44, _⟩ => ⟨S1024x32, .f32⟩
  | .hbm, ⟨45, _⟩ => ⟨S1024x32, .f32⟩
  | .hbm, ⟨46, _⟩ => ⟨S_, .f32⟩
  | .hbm, ⟨47, _⟩ => ⟨S1024, .f32⟩
  | .hbm, ⟨48, _⟩ => ⟨S1024x1, .f32⟩
  | .hbm, ⟨49, _⟩ => ⟨S1024x32, .f32⟩
  | .hbm, ⟨50, _⟩ => ⟨S1024x32, .f32⟩
  | .hbm, ⟨51, _⟩ => ⟨S1024x32x1, .f32⟩
  | .hbm, ⟨52, _⟩ => ⟨S1024x32x128, .f32⟩
  | .hbm, ⟨53, _⟩ => ⟨S1024x32x128, .f32⟩
  | .hbm, ⟨54, _⟩ => ⟨S_, .f32⟩
  | .hbm, ⟨55, _⟩ => ⟨S1024x128, .f32⟩
  | .hbm, ⟨56, _⟩ => ⟨S1024x128, .f32⟩
  | .hbm, ⟨57, _⟩ => ⟨S2x512x128, .f32⟩
  | .hbm, ⟨58, _⟩ => ⟨S2x512x128, .f32⟩
  | .hbm, ⟨59, _⟩ => ⟨S1x1x128, .f32⟩
  | .hbm, ⟨60, _⟩ => ⟨S2x512x128, .f32⟩
  | .hbm, ⟨61, _⟩ => ⟨S2x512x128, .f32⟩
  | .hbm, ⟨62, _⟩ => ⟨S_, .f32⟩
  | .hbm, ⟨63, _⟩ => ⟨S2x512, .f32⟩
  | .hbm, ⟨64, _⟩ => ⟨S2x512x1, .f32⟩
  | .hbm, ⟨65, _⟩ => ⟨S_, .f32⟩
  | .hbm, ⟨66, _⟩ => ⟨S2x512x1, .f32⟩
  | .hbm, ⟨67, _⟩ => ⟨S2x512x1, .f32⟩
  | .hbm, ⟨68, _⟩ => ⟨S_, .i32⟩
  | .hbm, ⟨69, _⟩ => ⟨S_, .f32⟩
  | .hbm, ⟨70, _⟩ => ⟨S2x512, .f32⟩
  | .hbm, ⟨71, _⟩ => ⟨S2x512x1, .f32⟩
  | .hbm, ⟨72, _⟩ => ⟨S_, .f32⟩
  | .hbm, ⟨73, _⟩ => ⟨S2x512x1, .f32⟩
  | .hbm, ⟨74, _⟩ => ⟨S2x512x1, .f32⟩
  | .hbm, ⟨75, _⟩ => ⟨S2x512x128, .f32⟩
  | .hbm, ⟨76, _⟩ => ⟨S2x512x128, .f32⟩
  | .hbm, ⟨77, _⟩ => ⟨S2x512x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S2x512, .f32⟩
  | .hbm, ⟨83, _⟩ => ⟨S2x512x1, .f32⟩
  | .hbm, ⟨84, _⟩ => ⟨S2x512x1, .f32⟩
  | .hbm, ⟨85, _⟩ => ⟨S2x512x1, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S2x512x1, .f32⟩
  | .hbm, ⟨91, _⟩ => ⟨S2x512x1, .f32⟩
  | .hbm, ⟨92, _⟩ => ⟨S2x512x128, .f32⟩
  | .hbm, ⟨93, _⟩ => ⟨S2x512x128, .f32⟩
  | .hbm, ⟨94, _⟩ => ⟨S_, .f32⟩
  | .hbm, ⟨95, _⟩ => ⟨S2x512x1, .f32⟩
  | .hbm, ⟨96, _⟩ => ⟨S2x512x1, .f32⟩
  | .hbm, ⟨97, _⟩ => ⟨S2x512x1, .f32⟩
  | .hbm, ⟨98, _⟩ => ⟨S2x512x128, .f32⟩
  | .hbm, ⟨99, _⟩ => ⟨S2x512x128, .f32⟩
  | .hbm, ⟨100, _⟩ => ⟨S1x1x128, .f32⟩
  | .hbm, ⟨101, _⟩ => ⟨S2x512x128, .f32⟩
  | .hbm, ⟨102, _⟩ => ⟨S2x512x128, .f32⟩
  | .hbm, ⟨103, _⟩ => ⟨S1x1x128, .f32⟩
  | .hbm, ⟨104, _⟩ => ⟨S2x512x128, .f32⟩
  | .hbm, ⟨105, _⟩ => ⟨S2x512x128, .f32⟩
  | .hbm, ⟨106, _⟩ => ⟨S_, .f32⟩
  | .hbm, ⟨107, _⟩ => ⟨S2x512x128, .f32⟩
  | .hbm, ⟨108, _⟩ => ⟨S2x512x128, .f32⟩
  | .hbm, ⟨109, _⟩ => ⟨S2x512x128, .f32⟩
  | .hbm, ⟨110, _⟩ => ⟨S1x1x128, .f32⟩
  | .hbm, ⟨111, _⟩ => ⟨S2x512x128, .f32⟩
  | .hbm, ⟨112, _⟩ => ⟨S2x512x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_values : Ref sig .tc := ⟨.hbm, 12, rfl⟩
abbrev main_indices : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v3 : Ref sig .tc := ⟨.hbm, 36, rfl⟩
abbrev main_cst : Ref sig .tc := ⟨.hbm, 37, rfl⟩
abbrev main_v4 : Ref sig .tc := ⟨.hbm, 38, rfl⟩
abbrev main_cst_0 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst_1 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_2 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_3 : Ref sig .tc := ⟨.hbm, 62, rfl⟩
abbrev main_v25 : Ref sig .tc := ⟨.hbm, 63, rfl⟩
abbrev main_v26 : Ref sig .tc := ⟨.hbm, 64, rfl⟩
abbrev main_cst_4 : Ref sig .tc := ⟨.hbm, 65, rfl⟩
abbrev main_v27 : Ref sig .tc := ⟨.hbm, 66, rfl⟩
abbrev main_v28 : Ref sig .tc := ⟨.hbm, 67, rfl⟩
abbrev main_c : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_cst_1 : Ref sig .tc := ⟨.hbm, 79, rfl⟩
abbrev main_call1_v8 : Ref sig .tc := ⟨.hbm, 80, rfl⟩
abbrev main_call1_cst_2 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_cst_3 : Ref sig .tc := ⟨.hbm, 86, rfl⟩
abbrev main_call1_v13 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_cst_5 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_call2_cst : Ref sig .tc := ⟨.hbm, 106, rfl⟩
abbrev main_call2_v0 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩

abbrev nD : Nat := 1
abbrev τ : Topo := Topo.v7x

variable {F : FTy → Type} [FloatOps F]
-- ==== Proof.Region0.lean ====
/- Region 0: the similarities block by block, the maxima of each block over the 16 columns of a group, and the running
   maximum of those over the blocks, which stays in its buffer from the first grid point to the last. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionsLoop
public import Idealize.ShloMosaic.Lib.Tactic
public import Idealize.ShloMosaic.Lib.VecWindow
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at the first grid point: the running maximum is the block's own maxima. -/
theorem run0_A (c : Dev nD) (i : grid0.Coords) (arg1 : Memref sig .tc .vmem S1024x128 .f32) (harg1 : arg1.IsWhole) (arg2 : Memref sig .tc .vmem S4096x128 .f32) (harg2 : arg2.IsWhole) (arg3 : Memref sig .tc .vmem S1024x4096 .f32) (harg3 : arg3.IsWhole) (arg4 : Memref sig .tc .vmem S1024x256 .f32) (harg4 : arg4.IsWhole) (arg5 : Memref sig .tc .vmem S1024x256 .f32) (harg5 : arg5.IsWhole) (hc1 : k0_cond1 i = 1#1) (hc2 : ¬ k0_cond2 i = 1#1)
    (x0 : Vec F S1024x128 .f32) (x1 : Vec F S4096x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (k0_pay2 x0 x1) ∗ owns (c : Thread nD τ) arg4 fullShare (k0_pay3 x0 x1) ∗ owns (c : Thread nD τ) arg5 fullShare (k0_pay3 x0 x1)) -∗ K ⟨⟩))
      ⊢ wp frame (wpE (defs₀ (F := F)) Variants.none c none) E (cc0__sims_body i arg1 harg1 arg2 harg2 arg3 harg3 arg4 harg4 arg5 harg5) K := by
  simp only [cc0__sims_body_eq_skeleton]; unfold cc0__sims_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  sl_exec (disch := first | sl_exact hc1 | sl_exact hc2)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; (try sl_unfold_words); rw [View.read_writes_full, View.readAt_full, View.readAt_full, hf0, hf1]
  isplitl [H3]
  · iexists _; isplitr; swap; · iexact H3
    ipureintro; (try sl_unfold_words); rw [View.read_writes_full, View.readAt_full, View.readAt_full, hf0, hf1]
  iexists _; isplitr; swap; · iexact H4
  ipureintro; (try sl_unfold_words); rw [View.read_writes_full, View.readAt_full, View.readAt_full, hf0, hf1]

set_option maxHeartbeats 1000000 in
/-- The body at a later grid point: the running maximum is taken with what the buffer holds. -/
theorem run0_B (c : Dev nD) (i : grid0.Coords) (arg1 : Memref sig .tc .vmem S1024x128 .f32) (harg1 : arg1.IsWhole) (arg2 : Memref sig .tc .vmem S4096x128 .f32) (harg2 : arg2.IsWhole) (arg3 : Memref sig .tc .vmem S1024x4096 .f32) (harg3 : arg3.IsWhole) (arg4 : Memref sig .tc .vmem S1024x256 .f32) (harg4 : arg4.IsWhole) (arg5 : Memref sig .tc .vmem S1024x256 .f32) (harg5 : arg5.IsWhole) (hc1 : ¬ k0_cond1 i = 1#1) (hc2 : k0_cond2 i = 1#1)
    (x0 : Vec F S1024x128 .f32) (x1 : Vec F S4096x128 .f32) (xo : Vec F S1024x256 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo
        ∗ (iprop(owns (c : Thread nD τ) arg1 fullShare x0 ∗ owns (c : Thread nD τ) arg2 fullShare x1 ∗ owns (c : Thread nD τ) arg3 fullShare (k0_pay2 x0 x1) ∗ owns (c : Thread nD τ) arg4 fullShare (k0_pay3 x0 x1) ∗ owns (c : Thread nD τ) arg5 fullShare (k0_pay1 (k0_pay3 x0 x1) xo)) -∗ K ⟨⟩))
      ⊢ wp frame (wpE (defs₀ (F := F)) Variants.none c none) E (cc0__sims_body i arg1 harg1 arg2 harg2 arg3 harg3 arg4 harg4 arg5 harg5) K := by
  simp only [cc0__sims_body_eq_skeleton]; unfold cc0__sims_body_skel
  simp only [k0_part1_eq_skeleton]
  unfold owns
  iintro ⟨⟨%f0, %hf0, H0⟩, ⟨%f1, %hf1, H1⟩, ⟨%d2, %f2, -, H2⟩, ⟨%d3, %f3, -, H3⟩, ⟨%f4, %hf4, H4⟩, Hk⟩
  sl_exec (disch := first | sl_exact hc1 | sl_exact hc2)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; (try sl_unfold_words); rw [View.read_writes_full, View.readAt_full, View.readAt_full, hf0, hf1]
  isplitl [H3]
  · iexists _; isplitr; swap; · iexact H3
    ipureintro; (try sl_unfold_words); rw [View.read_writes_full, View.readAt_full, View.readAt_full, hf0, hf1]
  iexists _; isplitr; swap; · iexact H4
  ipureintro; (try sl_unfold_words); rw [View.read_writes_full, View.readAt_full, View.readAt_full, View.readAt_full, hf0, hf1, hf4]

/-- The first condition holds at the first grid point only, -/
theorem hcond1 : ∀ t : Fin cfg0.N, k0_cond1 (grid0.coords t) = 1#1 ↔ t.val = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val = 0)

/-- and the second at every other. -/
theorem hcond2 : ∀ t : Fin cfg0.N, k0_cond2 (grid0.coords t) = 1#1 ↔ ¬ t.val = 0 :=
  (fun t => by
    have ht : t.val < 16 := Nat.lt_of_lt_of_eq t.isLt N_0
    have e0 : (grid0.coords t 0).val = t.val / 1 % 16 := Pipeline.Grid.coords_val t 0 (by decide) rfl
    simp only [k0_cond2, e0]
    word_cmp
   : ∀ t : Fin grid0.N, k0_cond2 (grid0.coords t) = 1#1 ↔ ¬ t.val = 0)

/-- At every point one of the two holds, so the running maximum's buffer is written at every point. -/
theorem live4 (i : grid0.Coords) : cfg0.idle 4 i = false := by
  have hi : (i 0).val < 16 := (i 0).isLt
  have h1 : k0_cond1 i = 1#1 ↔ (i 0).val = 0 := by simp only [k0_cond1]; word_cmp
  have h2 : k0_cond2 i = 1#1 ↔ ¬ (i 0).val = 0 := by simp only [k0_cond2]; word_cmp
  show (!(k0_cond1 i == 1#1) && !(k0_cond2 i == 1#1)) = false
  by_cases h : (i 0).val = 0
  · rw [h1.mpr h]; rfl
  · rw [h2.mpr h, Bool.and_comm]; rfl

/-! ## The region at its entry contents `V` -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block's group maxima at point `t`. -/
def m16At (c : Dev nD) (t : Fin cfg0.N) : Vec F S1024x256 .f32 := k0_pay3 (F := F) (iblk0 V c 0 t) (iblk0 V c 1 t)

/-- The running maximum after point `n`. -/
def acc0 (c : Dev nD) : (n : ℕ) → n < cfg0.N → Vec F S1024x256 .f32
  | 0, h => m16At V c ⟨0, h⟩
  | n + 1, h => k0_pay1 (F := F) (m16At V c ⟨n + 1, h⟩) (acc0 c n (Nat.lt_of_succ_lt h))

abbrev ms0_0 (t : Fin cfg0.N) : Memref sig .tc .vmem S1024x128 .f32 := win0_0.stage (cfg0.slots t 0)
abbrev ms0_1 (t : Fin cfg0.N) : Memref sig .tc .vmem S4096x128 .f32 := win0_1.stage (cfg0.slots t 1)
abbrev ms0_2 (t : Fin cfg0.N) : Memref sig .tc .vmem S1024x4096 .f32 := win0_2.stage (cfg0.slots t 2)
abbrev ms0_3 (t : Fin cfg0.N) : Memref sig .tc .vmem S1024x256 .f32 := win0_3.stage (cfg0.slots t 3)
abbrev ms0_4 (t : Fin cfg0.N) : Memref sig .tc .vmem S1024x256 .f32 := win0_4.stage (cfg0.slots t 4)

/-- The proof data: the arrays as found; the inputs' buffers unchanged; the outputs' at the block's similarities, the
    block's group maxima and the running maximum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (F := F) (iblk0 V c 0 t) (iblk0 V c 1 t)
    | ⟨3, _⟩ => m16At V c t
    | ⟨4, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay2 (F := F) (iblk0 V c 0 t) (iblk0 V c 1 t) := by dsimp only [dat0]
theorem after0_3 (c : Dev nD) (t : Fin cfg0.N) : (dat0 V c).after 3 t = m16At V c t := by dsimp only [dat0]
theorem after0_4 (c : Dev nD) (t : Fin cfg0.N) : (dat0 V c).after 4 t = acc0 V c t.val t.isLt := by dsimp only [dat0]

/-- Each input's current buffer holds its block. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- After the first point, the running maximum's buffer holds what the point before left. -/
theorem before0_4 (c : Dev nD) (t : Fin cfg0.N) (h0 : ¬t.val = 0) (d) :
    (dat0 V c).before 4 t d = acc0 V c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    live4 (fun _ _ => rfl)]
  dsimp only [dat0]

theorem acc0_zero (c : Dev nD) (t : Fin cfg0.N) (h : t.val = 0) : acc0 V c t.val t.isLt = m16At V c t := by
  obtain ⟨n, hn⟩ := t
  cases n with
  | zero => rfl
  | succ n => exact absurd h (Nat.succ_ne_zero n)
theorem acc0_succ (c : Dev nD) (t : Fin cfg0.N) (h : ¬t.val = 0) :
    acc0 V c t.val t.isLt = k0_pay1 (F := F) (m16At V c t) (acc0 V c (t.val - 1) (Nat.lt_of_le_of_lt (Nat.sub_le _ _) t.isLt)) := by
  obtain ⟨n, hn⟩ := t
  cases n with
  | zero => exact absurd rfl h
  | succ n => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the first, or a later one. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [acc0_zero V c t h0]
    iintro ⟨HΦ, Ho, ⟨%d0, H0⟩, ⟨%d1, H1⟩, ⟨%d2, H2⟩, ⟨%d3, H3⟩, ⟨%d4, H4⟩⟩
    iapply (run0_A c (grid0.coords t) _ _ _ _ _ _ _ _ _ _ ((hcond1 t).mpr h0) (fun h => (hcond2 t).mp h h0) (iblk0 V c 0 t) (iblk0 V c 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_succ V c t h0]
    simp only [before0_4 V c t h0]
    iintro ⟨HΦ, Ho, ⟨%d0, H0⟩, ⟨%d1, H1⟩, ⟨%d2, H2⟩, ⟨%d3, H3⟩, ⟨%d4, H4⟩⟩
    iapply (run0_B c (grid0.coords t) _ _ _ _ _ _ _ _ _ _ (fun h => h0 ((hcond1 t).mp h)) ((hcond2 t).mpr h0) (iblk0 V c 0 t) (iblk0 V c 1 t) _ Set.univ _)
    isplitl [H0]; · iexact H0
    isplitl [H1]; · iexact H1
    isplitl [H2]; · iexists _; iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row0 (t : Fin cfg0.N) :
    defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  refine triple_restated (sound_body0 V c t) rfl .rfl fun _ => ?_
  have h4 : cfg0.idle 4 (cfg0.grid.coords t) = false := live4 _
  unfold bodyPost0
  dsimp only at h4 ⊢
  rw [h4]

end Cert.KernelIdeal.Run
-- ==== Proof.Lane.lean ====
/- Recording a column: a `[1024, 32]` array in which lane `k` is replaced by a column `[1024, 1]`. -/
module

public import proofs.«01_k».proof.Proof.Gen.KernelIdeal.Skeleton
public import Idealize.ShloMosaic.Lib.PointwiseCore

@[expose] public section

noncomputable section

namespace Cert.KernelIdeal.Run

open Idealize.ShloMosaic Idealize.ShloMosaic.TcCoe Cert.KernelIdeal Cert.KernelIdeal.Gen

variable {F : FTy → Type} [FloatOps F]

theorem hz2 : (![0, 0] : Fin 2 → Nat) = fun _ => 0 := funext fun a => by fin_cases a <;> rfl

/-- The lane number equals the trip number as 32-bit words exactly when it does as a natural number. -/
theorem lane_word {a k : ℕ} (ha : a < 32) (hk : k < 32) :
    BitVec.ofNat 32 a = Scf.iv 0#32 1#32 k ↔ a = k := by
  unfold Scf.iv
  constructor
  · intro h
    have := congrArg BitVec.toNat h
    simp at this
    omega
  · rintro rfl; simp

/-- Writing a column into lane `k`: at lane `k` the column, elsewhere the old array. -/
theorem put_apply {α : Type} (k : ℕ) (hk : k < 32) (v : S1024x1.Idx → α) (old : S1024x32.Idx → α) (r : Fin 1024) (l : Fin 32) :
    select (cmpi .eq (iota .tc S1024x32 32 [1] iota_S1024x32_d1_w32) (broadcast S1024x32 (Scf.iv 0#32 1#32 k)))
        (broadcastTo S1024x32 (shapeCast S1024x1 v shapeCasts_S1024x1_S1024x1) broadcasts_S1024x1_S1024x32) old (ix2 r l)
      = if l.val = k then v (ix2 r 0) else old (ix2 r l) := by
  pointwise
  by_cases h : l.val = k
  · rw [if_pos h]; simp [Scalar.select, IntOp.cmpi, (lane_word l.isLt hk).mpr h]
  · rw [if_neg h]
    have : ¬ BitVec.ofNat 32 l.val = Scf.iv 0#32 1#32 k := fun e => h ((lane_word l.isLt hk).mp e)
    have e : (BitVec.ofNat 32 l.val == Scf.iv 0#32 1#32 k) = false := beq_eq_false_iff_ne.mpr this
    simp only [Scalar.select, IntOp.cmpi, e]
    exact if_neg (by decide)

end Cert.KernelIdeal.Run
-- ==== Proof.Region1.lean ====
/- Region 1: selecting the 32 largest lanes of each row, and the list of candidate columns built from them. The body is
   run with its loop under an invariant that says what the scratch arrays hold after `k` trips. -/
module

public import proofs.«01_k».proof.Proof.Gen.KernelIdeal.Launch
public import proofs.«01_k».proof.Proof.Gen.KernelIdeal.Points
public import proofs.«01_k».proof.Proof.Lane
public import Idealize.ShloMosaic.Lib.Pipeline.FrameBody
public import Idealize.ShloMosaic.Lib.Pipeline.RegionsLoop
public import Idealize.ShloMosaic.Lib.Tactic
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The working array after `k` trips: each trip removes one lane per row. -/
def xs1 (x : Vec F S1024x256 .f32) (k : ℕ) : Vec F S1024x256 .f32 := (fun y => k1_pay8 y)^[k] (k1_pay2 x)

/-- The lanes selected: lane `k` of a row is the one trip `k` removes. -/
def sel1 (x : Vec F S1024x256 .f32) : Vec F S1024x32 .i32 := fun i => k1_pay5 (xs1 x (i 1).val) (ix2 (i 0) 0)

/-- The candidate columns, as flat indices, that the call returns. -/
def outB (x : Vec F S1024x256 .f32) : Vec F S1024x512 .i32 := k1_pay1 (F := F) (k1_pay9 (F := F) (sel1 x))

/-- `s` holds the selected lanes of the first `k` trips. -/
def SelUpTo1 (x : Vec F S1024x256 .f32) (k : ℕ) (s : Vec F S1024x32 .i32) : Prop :=
  ∀ (r : Fin 1024) (l : Fin 32), l.val < k → s (ix2 r l) = k1_pay5 (xs1 x l.val) (ix2 r 0)

theorem xs1_succ (x : Vec F S1024x256 .f32) (k : ℕ) : k1_pay8 (xs1 x k) = xs1 x (k + 1) := by
  unfold xs1; rw [Function.iterate_succ_apply']

theorem selUpTo1_succ {x : Vec F S1024x256 .f32} {k : Fin k1_t1_loop.trips} {s : Vec F S1024x32 .i32}
    (h : SelUpTo1 x k.val s) : SelUpTo1 x (k.val + 1) (k1_pay7 k (xs1 x k.val) s) := by
  have hk : k.val < 32 := Nat.lt_of_lt_of_le k.isLt k1_t1_abs.2.1
  intro r l hl
  have e : k1_pay7 (F := F) k (xs1 x k.val) s (ix2 r l) = if l.val = k.val then k1_pay5 (xs1 x k.val) (ix2 r 0) else s (ix2 r l) := by
    unfold k1_pay7
    rw [shapeCast_self]
    exact put_apply k.val hk _ _ r l
  rw [e]
  split
  · next h' => rw [h']
  · exact h r l (by omega)

theorem selUpTo1_full {x : Vec F S1024x256 .f32} {s : Vec F S1024x32 .i32} (h : SelUpTo1 x 32 s) : s = sel1 x := by
  funext i
  rw [show i = ix2 (i 0) (i 1) from by funext a; fin_cases a <;> rfl]
  exact h _ _ (i 1).isLt

/-- Before trip `k`: the working array at `xs1 x k`, the value list at anything, the first `k` selected lanes recorded. -/
def inv1 (c : Dev nD) (arg2 : Memref sig .tc .vmem S1024x256 .f32) (arg3 : Memref sig .tc .vmem S1024x32 .f32) (arg4 : Memref sig .tc .vmem S1024x32 .i32)
    (x : Vec F S1024x256 .f32) (k : ℕ) (_ : PUnit) : sProp 𝕄 :=
  iprop(owns (c : Thread nD τ) arg2 fullShare (xs1 x k)
    ∗ (∃ d, owns (c : Thread nD τ) arg3 fullShare d)
    ∗ (∃ s, ⌜SelUpTo1 x k s⌝ ∗ owns (c : Thread nD τ) arg4 fullShare s))

set_option maxHeartbeats 1000000 in
/-- The body on whole arrays: from the row maxima `x` it leaves the candidate list `outB x`, its scratch arrays at anything. -/
theorem run1 (c : Dev nD) (arg0 : Memref sig .tc .vmem S1024x256 .f32) (harg0 : arg0.IsWhole) (arg1 : Memref sig .tc .vmem S1024x512 .i32) (harg1 : arg1.IsWhole) (arg2 : Memref sig .tc .vmem S1024x256 .f32) (harg2 : arg2.IsWhole) (arg3 : Memref sig .tc .vmem S1024x32 .f32) (harg3 : arg3.IsWhole) (arg4 : Memref sig .tc .vmem S1024x32 .i32) (harg4 : arg4.IsWhole)
    (x0 : Vec F S1024x256 .f32) (E : Set ℕ) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare (outB x0) ∗ (∃ d, owns (c : Thread nD τ) arg2 fullShare d) ∗ (∃ d, owns (c : Thread nD τ) arg3 fullShare d) ∗ (∃ d, owns (c : Thread nD τ) arg4 fullShare d)) -∗ K ⟨⟩))
      ⊢ wp frame (wpE (defs₀ (F := F)) Variants.none c none) E (cc1__b_body arg0 harg0 arg1 harg1 arg2 harg2 arg3 harg3 arg4 harg4) K := by
  simp only [cc1__b_body_eq_skeleton]; unfold cc1__b_body_skel
  simp only [k1_part1_eq_skeleton]
  unfold owns
  iintro ⟨⟨%f0, %hf0, H0⟩, ⟨%d1, %f1, -, H1⟩, ⟨%ds0, %fs0, -, HS0⟩, ⟨%ds1, %fs1, -, HS1⟩, ⟨%ds2, %fs2, -, HS2⟩, Hk⟩
  sl_exec
  sl_for (inv1 c arg2 arg3 arg4 x0) $$ [HS0 HS1 HS2]
  case region =>
    intro k _
    unfold inv1 owns
    iintro ⟨⟨%g2, %hg2, HS0⟩, ⟨%d3, %g3, -, HS1⟩, ⟨%s, %hs, %g4, %hg4, HS2⟩⟩
    sl_exec
    sl_step
    isplitl [HS0]
    · iexists _; isplitr; swap; · iexact HS0
      ipureintro; rw [View.read_writes_full, View.readAt_full, hg2, xs1_succ]
    isplitl [HS1]
    · iexists _, _; isplitr; swap; · iexact HS1
      ipureintro; rfl
    iexists _; isplitr; swap
    · iexists _; isplitr; swap; · iexact HS2
      ipureintro; rw [View.read_writes_full, View.readAt_full, View.readAt_full, hg2, hg4]
    ipureintro; exact selUpTo1_succ hs
  · unfold inv1 owns
    isplitl [HS0]
    · iexists _; isplitr; swap; · iexact HS0
      ipureintro; sl_unfold_words; rw [View.read_writes_full, View.readAt_full, hf0]; rfl
    isplitl [HS1]
    · iexists _, _; isplitr; swap; · iexact HS1
      ipureintro; rfl
    iexists _; isplitr; swap
    · iexists _; isplitr; swap; · iexact HS2
      ipureintro; rfl
    ipureintro; exact fun _ _ h => absurd h (Nat.not_lt_zero _)
  iintro %_ HI
  unfold inv1 owns
  icases HI with ⟨⟨%g2, %hg2, HS0⟩, ⟨%d3, %g3, -, HS1⟩, ⟨%s, %hs, %g4, %hg4, HS2⟩⟩
  sl_exec
  sl_step
  iapply Hk
  isplitl [H0]
  · iexists _; isplitr; swap; · iexact H0
    ipureintro; exact hf0
  isplitl [H1]
  · iexists _; isplitr; swap; · iexact H1
    ipureintro; sl_unfold_words; rw [View.read_writes_full, View.readAt_full, hg4, selUpTo1_full hs]; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-! ## The region at its entry contents `V` -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S1024x256 .f32 := win1_0.stage (cfg1.slots t 0)
abbrev ms1_1 (t : Fin cfg1.N) : Memref sig .tc .vmem S1024x512 .i32 := win1_1.stage (cfg1.slots t 1)
abbrev scM1_0 : Memref sig .tc .vmem S1024x256 .f32 := Memref.whole cc1_scratch0
abbrev scM1_1 : Memref sig .tc .vmem S1024x32 .f32 := Memref.whole cc1_scratch1
abbrev scM1_2 : Memref sig .tc .vmem S1024x32 .i32 := Memref.whole cc1_scratch2

/-- The scratch arrays one by one, then every other scoped array. -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ Pipeline.scopedRestBut spec1 c [cc1_scratch0, cc1_scratch1, cc1_scratch2]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest1_split, assoc, assoc]

/-- The same, with the scratch arrays owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ (∃ d, owns (c : Thread nD τ) scM1_2 fullShare d) ∗ Pipeline.scopedRestBut spec1 c [cc1_scratch0, cc1_scratch1, cc1_scratch2]) ∗ (∃ r, prngReg c r)) := by
  unfold Pipeline.ΦA; rw [scopedRest1_flat]; simp only [scM1_0, scM1_1, scM1_2, owns_whole]; try rfl

/-- The proof data: the arrays as found, the input's buffer unchanged, the output's at `outB` of the input block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => outB (F := F) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = outB (F := F) (iblk1 V c 0 t) := by dsimp only [dat1]

/-- The input's current buffer holds its block. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  rw [show (dat1 V c).Φ t.castSucc = Pipeline.ΦA spec1 c from rfl, PhiA1_eq]
  iintro ⟨⟨⟨HS0, HS1, HS2, HR3⟩, Hg⟩, Ho, ⟨%d0, H0⟩, ⟨%d1, H1⟩⟩
  iapply (run1 c _ _ _ _ _ _ _ _ _ _ (iblk1 V c 0 t) Set.univ _)
  isplitl [H0]; · iexact H0
  isplitl [H1]; · iexists _; iexact H1
  isplitl [HS0]; · iexact HS0
  isplitl [HS1]; · iexact HS1
  isplitl [HS2]; · iexact HS2
  iintro ⟨H0, H1, HS0, HS1, HS2⟩
  isplitl [HS0 HS1 HS2 HR3 Hg]
  · isplitl [HS0 HS1 HS2 HR3]
    · isplitl [HS0]; · iexact HS0
      isplitl [HS1]; · iexact HS1
      isplitl [HS2]; · iexact HS2
      iexact HR3
    iexact Hg
  isplitl [Ho]; · iexact Ho
  isplitl [H0]; · iexact H0
  iexact H1

theorem defs₀_row1 (t : Fin cfg1.N) :
    defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run
-- ==== Proof.Extract.lean ====
/- The 32 largest of 512 candidates per row: what the loop's arrays hold after `k` trips, for the two calls that share it. -/
module

public import proofs.«01_k».proof.Proof.Gen.KernelIdeal.Launch
public import proofs.«01_k».proof.Proof.Gen.KernelIdeal.Points
public import proofs.«01_k».proof.Proof.Lane
public import Idealize.ShloMosaic.Lib.Pipeline.FrameBody
public import Idealize.ShloMosaic.Lib.Pipeline.RegionsLoop
public import Idealize.ShloMosaic.Lib.Tactic
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The working array after `k` trips: each trip removes, per row, the entries carrying one index. -/
def xs2 (a : Vec F S1024x512 .i32) (x : Vec F S1024x512 .f32) (k : ℕ) : Vec F S1024x512 .f32 := (fun y => k2_pay9 a y)^[k] (k2_pay2 x)

/-- The indices selected: lane `k` of a row is the one trip `k` removes. -/
def sel2 (a : Vec F S1024x512 .i32) (x : Vec F S1024x512 .f32) : Vec F S1024x32 .i32 := fun i => k2_pay6 a (xs2 a x (i 1).val) (ix2 (i 0) 0)

/-- The values selected: lane `k` of a row is the row maximum trip `k` finds. -/
def vals2 (a : Vec F S1024x512 .i32) (x : Vec F S1024x512 .f32) : Vec F S1024x32 .f32 := fun i => k2_pay4 (xs2 a x (i 1).val) (ix2 (i 0) 0)

/-- `s` holds the selected indices of the first `k` trips. -/
def SelUpTo2 (a : Vec F S1024x512 .i32) (x : Vec F S1024x512 .f32) (k : ℕ) (s : Vec F S1024x32 .i32) : Prop :=
  ∀ (r : Fin 1024) (l : Fin 32), l.val < k → s (ix2 r l) = k2_pay6 a (xs2 a x l.val) (ix2 r 0)

/-- `s` holds the selected values of the first `k` trips. -/
def ValUpTo2 (a : Vec F S1024x512 .i32) (x : Vec F S1024x512 .f32) (k : ℕ) (s : Vec F S1024x32 .f32) : Prop :=
  ∀ (r : Fin 1024) (l : Fin 32), l.val < k → s (ix2 r l) = k2_pay4 (xs2 a x l.val) (ix2 r 0)

theorem xs2_succ (a : Vec F S1024x512 .i32) (x : Vec F S1024x512 .f32) (k : ℕ) : k2_pay9 a (xs2 a x k) = xs2 a x (k + 1) := by
  unfold xs2; rw [Function.iterate_succ_apply']

theorem selUpTo2_succ {a : Vec F S1024x512 .i32} {x : Vec F S1024x512 .f32} {k : Fin k2_t1_loop.trips} {s : Vec F S1024x32 .i32}
    (h : SelUpTo2 a x k.val s) : SelUpTo2 a x (k.val + 1) (k2_pay8 a k (xs2 a x k.val) s) := by
  have hk : k.val < 32 := Nat.lt_of_lt_of_le k.isLt k2_t1_abs.2.1
  intro r l hl
  have e : k2_pay8 (F := F) a k (xs2 a x k.val) s (ix2 r l) = if l.val = k.val then k2_pay6 a (xs2 a x k.val) (ix2 r 0) else s (ix2 r l) := by
    unfold k2_pay8
    rw [shapeCast_self]
    exact put_apply k.val hk _ _ r l
  rw [e]
  split
  · next h' => rw [h']
  · exact h r l (by omega)

theorem valUpTo2_succ {a : Vec F S1024x512 .i32} {x : Vec F S1024x512 .f32} {k : Fin k2_t1_loop.trips} {s : Vec F S1024x32 .f32}
    (h : ValUpTo2 a x k.val s) : ValUpTo2 a x (k.val + 1) (k2_pay7 k (xs2 a x k.val) s) := by
  have hk : k.val < 32 := Nat.lt_of_lt_of_le k.isLt k2_t1_abs.2.1
  intro r l hl
  have e : k2_pay7 (F := F) k (xs2 a x k.val) s (ix2 r l) = if l.val = k.val then k2_pay4 (xs2 a x k.val) (ix2 r 0) else s (ix2 r l) := by
    unfold k2_pay7
    rw [shapeCast_self]
    exact put_apply k.val hk _ _ r l
  rw [e]
  split
  · next h' => rw [h']
  · exact h r l (by omega)

theorem selUpTo2_full {a : Vec F S1024x512 .i32} {x : Vec F S1024x512 .f32} {s : Vec F S1024x32 .i32} (h : SelUpTo2 a x 32 s) : s = sel2 a x := by
  funext i
  rw [show i = ix2 (i 0) (i 1) from by funext a; fin_cases a <;> rfl]
  exact h _ _ (i 1).isLt

theorem valUpTo2_full {a : Vec F S1024x512 .i32} {x : Vec F S1024x512 .f32} {s : Vec F S1024x32 .f32} (h : ValUpTo2 a x 32 s) : s = vals2 a x := by
  funext i
  rw [show i = ix2 (i 0) (i 1) from by funext a; fin_cases a <;> rfl]
  exact h _ _ (i 1).isLt

end Cert.KernelIdeal.Run
-- ==== Proof.Region2.lean ====
/- Region 2: selecting the 32 largest of each row's 512 candidates, with the flat index each came from, and the list of
   candidate columns built from them. The body is
   run with its loop under an invariant that says what the scratch arrays hold after `k` trips. -/
module

public import proofs.«01_k».proof.Proof.Gen.KernelIdeal.Launch
public import proofs.«01_k».proof.Proof.Gen.KernelIdeal.Points
public import proofs.«01_k».proof.Proof.Extract
public import Idealize.ShloMosaic.Lib.Pipeline.FrameBody
public import Idealize.ShloMosaic.Lib.Pipeline.RegionsLoop
public import Idealize.ShloMosaic.Lib.Tactic
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The candidate columns of the similarity matrix that the call returns, from the selected indices. -/
def outDs (s : Vec F S1024x32 .i32) : Vec F S1024x512 .i32 :=
  k2_pay1 (F := F) (k2_pay13 (F := F) (k2_pay10 (F := F) s) 256#32 (k2_pay11 (F := F) s) (k2_pay12 (F := F) s) (Scalar.cmpi .sgt 256#32 0#32))
    (iota .tc S32x512 32 [0] iota_S32x512_d0_w32) (iota .tc S32x512 32 [1] iota_S32x512_d1_w32) 16#32 k2_pay14 k2_pay15 (Scalar.cmpi .sgt 16#32 0#32)

/-- The same, from the candidates' values `x` and indices `a`. -/
def outD (x : Vec F S1024x512 .f32) (a : Vec F S1024x512 .i32) : Vec F S1024x512 .i32 := outDs (F := F) (sel2 a x)

/-- Before trip `k`: the working array at `xs2 a x k`, the value list at anything, the first `k` selected indices recorded. -/
def inv2 (c : Dev nD) (arg3 : Memref sig .tc .vmem S1024x512 .f32) (arg4 : Memref sig .tc .vmem S1024x32 .f32) (arg5 : Memref sig .tc .vmem S1024x32 .i32)
    (a : Vec F S1024x512 .i32) (x : Vec F S1024x512 .f32) (k : ℕ) (_ : PUnit) : sProp 𝕄 :=
  iprop(owns (c : Thread nD τ) arg3 fullShare (xs2 a x k)
    ∗ (∃ d, owns (c : Thread nD τ) arg4 fullShare d)
    ∗ (∃ s, ⌜SelUpTo2 a x k s⌝ ∗ owns (c : Thread nD τ) arg5 fullShare s))

set_option maxHeartbeats 2000000 in
/-- The body on whole arrays: from the candidates' values `x0` and indices `x1` it leaves the candidate list `outD x0 x1`, its scratch arrays at anything. -/
theorem run2 (c : Dev nD) (arg0 : Memref sig .tc .vmem S1024x512 .f32) (harg0 : arg0.IsWhole) (arg1 : Memref sig .tc .vmem S1024x512 .i32) (harg1 : arg1.IsWhole) (arg2 : Memref sig .tc .vmem S1024x512 .i32) (harg2 : arg2.IsWhole) (arg3 : Memref sig .tc .vmem S1024x512 .f32) (harg3 : arg3.IsWhole) (arg4 : Memref sig .tc .vmem S1024x32 .f32) (harg4 : arg4.IsWhole) (arg5 : Memref sig .tc .vmem S1024x32 .i32) (harg5 : arg5.IsWhole)
    (x0 : Vec F S1024x512 .f32) (x1 : Vec F S1024x512 .i32) (E : Set ℕ) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare (outD x0 x1) ∗ (∃ d, owns (c : Thread nD τ) arg3 fullShare d) ∗ (∃ d, owns (c : Thread nD τ) arg4 fullShare d) ∗ (∃ d, owns (c : Thread nD τ) arg5 fullShare d)) -∗ K ⟨⟩))
      ⊢ wp frame (wpE (defs₀ (F := F)) Variants.none c none) E (cc2__d_body arg0 harg0 arg1 harg1 arg2 harg2 arg3 harg3 arg4 harg4 arg5 harg5) K := by
  simp only [cc2__d_body_eq_skeleton]; unfold cc2__d_body_skel
  simp only [k2_part1_eq_skeleton, k2_part2_eq_skeleton]
  unfold owns
  iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, Hk⟩
  sl_exec
  sl_for (inv2 c arg3 arg4 arg5 x1 x0) $$ [HS0 HS1 HS2]
  case region =>
    intro k _
    unfold inv2 owns
    iintro ⟨⟨%g2, %hg2, HS0⟩, ⟨%d3, %g3, -, HS1⟩, ⟨%s, %hs, %g4, %hg4, HS2⟩⟩
    sl_exec
    sl_step
    isplitl [HS0]
    · iexists _; isplitr; swap; · iexact HS0
      ipureintro; (try sl_unfold_words); rw [View.read_writes_full, View.readAt_full, View.readAt_full, hg2, hf1, xs2_succ]
    isplitl [HS1]
    · iexists _, _; isplitr; swap; · iexact HS1
      ipureintro; rfl
    iexists _; isplitr; swap
    · iexists _; isplitr; swap; · iexact HS2
      ipureintro; (try sl_unfold_words); rw [View.read_writes_full, View.readAt_full, View.readAt_full, View.readAt_full, hg2, hg4, hf1]
    ipureintro; exact selUpTo2_succ hs
  · unfold inv2 owns
    isplitl [HS0]
    · iexists _; isplitr; swap; · iexact HS0
      ipureintro; sl_unfold_words; rw [View.read_writes_full, View.readAt_full, hf0]; rfl
    isplitl [HS1]
    · iexists _, _; isplitr; swap; · iexact HS1
      ipureintro; rfl
    iexists _; isplitr; swap
    · iexists _; isplitr; swap; · iexact HS2
      ipureintro; rfl
    ipureintro; exact fun _ _ h => absurd h (Nat.not_lt_zero _)
  iintro %_ HI
  unfold inv2 owns
  icases HI with ⟨⟨%g2, %hg2, HS0⟩, ⟨%d3, %g3, -, HS1⟩, ⟨%s, %hs, %g4, %hg4, HS2⟩⟩
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; sl_unfold_words; rw [View.read_writes_full, View.readAt_full, hg4, selUpTo2_full hs]; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-! ## The region at its entry contents `V` -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S1024x512 .f32 := win2_0.stage (cfg2.slots t 0)
abbrev ms2_1 (t : Fin cfg2.N) : Memref sig .tc .vmem S1024x512 .i32 := win2_1.stage (cfg2.slots t 1)
abbrev ms2_2 (t : Fin cfg2.N) : Memref sig .tc .vmem S1024x512 .i32 := win2_2.stage (cfg2.slots t 2)
abbrev scM2_0 : Memref sig .tc .vmem S1024x512 .f32 := Memref.whole cc2_scratch0
abbrev scM2_1 : Memref sig .tc .vmem S1024x32 .f32 := Memref.whole cc2_scratch1
abbrev scM2_2 : Memref sig .tc .vmem S1024x32 .i32 := Memref.whole cc2_scratch2

/-- The scratch arrays one by one, then every other scoped array. -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f) ∗ Pipeline.scopedRestBut spec2 c [cc2_scratch0, cc2_scratch1, cc2_scratch2]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest2_split, assoc, assoc]

/-- The same, with the scratch arrays owned at some contents. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ (∃ d, owns (c : Thread nD τ) scM2_2 fullShare d) ∗ Pipeline.scopedRestBut spec2 c [cc2_scratch0, cc2_scratch1, cc2_scratch2]) ∗ (∃ r, prngReg c r)) := by
  unfold Pipeline.ΦA; rw [scopedRest2_flat]; simp only [scM2_0, scM2_1, scM2_2, owns_whole]; try rfl

/-- The proof data: the arrays as found, the inputs' buffers unchanged, the output's at `outD` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outD (F := F) (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outD (F := F) (iblk2 V c 0 t) (iblk2 V c 1 t) := by dsimp only [dat2]

/-- Each input's current buffer holds its block. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  rw [show (dat2 V c).Φ t.castSucc = Pipeline.ΦA spec2 c from rfl, PhiA2_eq]
  iintro ⟨⟨⟨HS0, HS1, HS2, HR3⟩, Hg⟩, Ho, ⟨%d0, H0⟩, ⟨%d1, H1⟩, ⟨%d2, H2⟩⟩
  iapply (run2 c _ _ _ _ _ _ _ _ _ _ _ _ (iblk2 V c 0 t) (iblk2 V c 1 t) Set.univ _)
  isplitl [H0]; · iexact H0
  isplitl [H1]; · iexact H1
  isplitl [H2]; · iexists _; iexact H2
  isplitl [HS0]; · iexact HS0
  isplitl [HS1]; · iexact HS1
  isplitl [HS2]; · iexact HS2
  iintro ⟨H0, H1, H2, HS0, HS1, HS2⟩
  isplitl [HS0 HS1 HS2 HR3 Hg]
  · isplitl [HS0 HS1 HS2 HR3]
    · isplitl [HS0]; · iexact HS0
      isplitl [HS1]; · iexact HS1
      isplitl [HS2]; · iexact HS2
      iexact HR3
    iexact Hg
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

/-- The body's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run
-- ==== Proof.Region3.lean ====
/- Region 3: selecting the 32 largest of each row's 512 candidates, with the column each came from, and the softmax
   weights of the selected values. The body is
   run with its loop under an invariant that says what the scratch arrays hold after `k` trips. -/
module

public import proofs.«01_k».proof.Proof.Gen.KernelIdeal.Launch
public import proofs.«01_k».proof.Proof.Gen.KernelIdeal.Points
public import proofs.«01_k».proof.Proof.Extract
public import Idealize.ShloMosaic.Lib.Pipeline.FrameBody
public import Idealize.ShloMosaic.Lib.Pipeline.RegionsLoop
public import Idealize.ShloMosaic.Lib.Tactic
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Before trip `k`: the working array at `xs2 a x k`, the first `k` selected values and indices recorded. -/
def inv3 (c : Dev nD) (arg4 : Memref sig .tc .vmem S1024x512 .f32) (arg5 : Memref sig .tc .vmem S1024x32 .f32) (arg6 : Memref sig .tc .vmem S1024x32 .i32)
    (a : Vec F S1024x512 .i32) (x : Vec F S1024x512 .f32) (k : ℕ) (_ : PUnit) : sProp 𝕄 :=
  iprop(owns (c : Thread nD τ) arg4 fullShare (xs2 a x k)
    ∗ (∃ s, ⌜ValUpTo2 a x k s⌝ ∗ owns (c : Thread nD τ) arg5 fullShare s)
    ∗ (∃ s, ⌜SelUpTo2 a x k s⌝ ∗ owns (c : Thread nD τ) arg6 fullShare s))

set_option maxHeartbeats 2000000 in
/-- The body on whole arrays: from the candidates' values `x0` and indices `x1` it leaves the softmax of the selected values and the selected columns, its scratch arrays at anything. -/
theorem run3 (c : Dev nD) (arg0 : Memref sig .tc .vmem S1024x512 .f32) (harg0 : arg0.IsWhole) (arg1 : Memref sig .tc .vmem S1024x512 .i32) (harg1 : arg1.IsWhole) (arg2 : Memref sig .tc .vmem S1024x32 .f32) (harg2 : arg2.IsWhole) (arg3 : Memref sig .tc .vmem S1024x32 .i32) (harg3 : arg3.IsWhole) (arg4 : Memref sig .tc .vmem S1024x512 .f32) (harg4 : arg4.IsWhole) (arg5 : Memref sig .tc .vmem S1024x32 .f32) (harg5 : arg5.IsWhole) (arg6 : Memref sig .tc .vmem S1024x32 .i32) (harg6 : arg6.IsWhole)
    (x0 : Vec F S1024x512 .f32) (x1 : Vec F S1024x512 .i32) (E : Set ℕ) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare (k3_pay9 (vals2 x1 x0)) ∗ owns (c : Thread nD τ) arg3 fullShare (sel2 x1 x0) ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) E (cc3__f_body arg0 harg0 arg1 harg1 arg2 harg2 arg3 harg3 arg4 harg4 arg5 harg5 arg6 harg6) K := by
  simp only [cc3__f_body_eq_skeleton]; unfold cc3__f_body_skel
  unfold owns
  iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, ⟨%ds2, %fs2, -, HS2⟩, Hk⟩
  sl_exec
  sl_for (inv3 c arg4 arg5 arg6 x1 x0) $$ [HS0 HS1 HS2]
  case region =>
    intro k _
    unfold inv3 owns
    iintro ⟨⟨%g2, %hg2, HS0⟩, ⟨%w, %hw, %g3, %hg3, HS1⟩, ⟨%s, %hs, %g4, %hg4, HS2⟩⟩
    sl_exec
    sl_step
    isplitl [HS0]
    · iexists _; isplitr; swap; · iexact HS0
      ipureintro; (try sl_unfold_words); rw [View.read_writes_full, View.readAt_full, View.readAt_full, hg2, hf1]; exact xs2_succ _ _ _
    isplitl [HS1]
    · iexists _; isplitr; swap
      · iexists _; isplitr; swap; · iexact HS1
        ipureintro; (try sl_unfold_words); rw [View.read_writes_full, View.readAt_full, View.readAt_full, hg2, hg3]
      ipureintro; exact valUpTo2_succ (k := k) hw
    iexists _; isplitr; swap
    · iexists _; isplitr; swap; · iexact HS2
      ipureintro; (try sl_unfold_words); rw [View.read_writes_full, View.readAt_full, View.readAt_full, View.readAt_full, hg2, hg4, hf1]
    ipureintro; exact selUpTo2_succ (k := k) hs
  · unfold inv3 owns
    isplitl [HS0]
    · iexists _; isplitr; swap; · iexact HS0
      ipureintro; sl_unfold_words; rw [View.read_writes_full, View.readAt_full, hf0]; rfl
    isplitl [HS1]
    · iexists _; isplitr; swap
      · iexists _; isplitr; swap; · iexact HS1
        ipureintro; rfl
      ipureintro; exact fun _ _ h => absurd h (Nat.not_lt_zero _)
    iexists _; isplitr; swap
    · iexists _; isplitr; swap; · iexact HS2
      ipureintro; rfl
    ipureintro; exact fun _ _ h => absurd h (Nat.not_lt_zero _)
  iintro %_ HI
  unfold inv3 owns
  icases HI with ⟨⟨%g2, %hg2, HS0⟩, ⟨%w, %hw, %g3, %hg3, HS1⟩, ⟨%s, %hs, %g4, %hg4, HS2⟩⟩
  sl_exec
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; (try sl_unfold_words); rw [View.read_writes_full, View.readAt_full, hg3, valUpTo2_full hw]
  isplitl [H3]
  · iexists _; isplitr; swap; · iexact H3
    ipureintro; (try sl_unfold_words); rw [View.read_writes_full, View.readAt_full, hg4, selUpTo2_full hs]
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-! ## The region at its entry contents `V` -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms3_0 (t : Fin cfg3.N) : Memref sig .tc .vmem S1024x512 .f32 := win3_0.stage (cfg3.slots t 0)
abbrev ms3_1 (t : Fin cfg3.N) : Memref sig .tc .vmem S1024x512 .i32 := win3_1.stage (cfg3.slots t 1)
abbrev ms3_2 (t : Fin cfg3.N) : Memref sig .tc .vmem S1024x32 .f32 := win3_2.stage (cfg3.slots t 2)
abbrev ms3_3 (t : Fin cfg3.N) : Memref sig .tc .vmem S1024x32 .i32 := win3_3.stage (cfg3.slots t 3)
abbrev scM3_0 : Memref sig .tc .vmem S1024x512 .f32 := Memref.whole cc3_scratch0
abbrev scM3_1 : Memref sig .tc .vmem S1024x32 .f32 := Memref.whole cc3_scratch1
abbrev scM3_2 : Memref sig .tc .vmem S1024x32 .i32 := Memref.whole cc3_scratch2

/-- The scratch arrays one by one, then every other scoped array. -/
theorem scopedRest3_flat (c : Dev nD) :
    (Pipeline.scopedRest spec3 c : sProp 𝕄)
      = iprop((∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f) ∗ Pipeline.scopedRestBut spec3 c [cc3_scratch0, cc3_scratch1, cc3_scratch2]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest3_split, assoc, assoc]

/-- The same, with the scratch arrays owned at some contents. -/
theorem PhiA3_eq (c : Dev nD) :
    (Pipeline.ΦA spec3 c : sProp 𝕄)
      = iprop(iprop((∃ d, owns (c : Thread nD τ) scM3_0 fullShare d) ∗ (∃ d, owns (c : Thread nD τ) scM3_1 fullShare d) ∗ (∃ d, owns (c : Thread nD τ) scM3_2 fullShare d) ∗ Pipeline.scopedRestBut spec3 c [cc3_scratch0, cc3_scratch1, cc3_scratch2]) ∗ (∃ r, prngReg c r)) := by
  unfold Pipeline.ΦA; rw [scopedRest3_flat]; simp only [scM3_0, scM3_1, scM3_2, owns_whole]; try rfl

/-- The proof data: the arrays as found, the inputs' buffers unchanged, the outputs' at the softmax of the
    selected values and at the selected columns. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay9 (F := F) (vals2 (iblk3 V c 1 t) (iblk3 V c 0 t))
    | ⟨3, _⟩ => sel2 (F := F) (iblk3 V c 1 t) (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay9 (F := F) (vals2 (iblk3 V c 1 t) (iblk3 V c 0 t)) := by dsimp only [dat3]
theorem after3_3 (c : Dev nD) (t : Fin cfg3.N) : (dat3 V c).after 3 t = sel2 (F := F) (iblk3 V c 1 t) (iblk3 V c 0 t) := by dsimp only [dat3]

/-- Each input's current buffer holds its block. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  rw [show (dat3 V c).Φ t.castSucc = Pipeline.ΦA spec3 c from rfl, PhiA3_eq]
  iintro ⟨⟨⟨HS0, HS1, HS2, HR3⟩, Hg⟩, Ho, ⟨%d0, H0⟩, ⟨%d1, H1⟩, ⟨%d2, H2⟩, ⟨%d3, H3⟩⟩
  iapply (run3 c _ _ _ _ _ _ _ _ _ _ _ _ _ _ (iblk3 V c 0 t) (iblk3 V c 1 t) Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 HR3 Hg]
  · isplitl [HS0 HS1 HS2 HR3]
    · isplitl [HS0]; · iexact HS0
      isplitl [HS1]; · iexact HS1
      isplitl [HS2]; · iexact HS2
      iexact HR3
    iexact Hg
  isplitl [Ho]; · iexact Ho
  isplitl [H0]; · iexact H0
  isplitl [H1]; · iexact H1
  isplitl [H2]; · iexact H2
  iexact H3

theorem defs₀_row3 (t : Fin cfg3.N) :
    defs₀ (F := F) .tc cfg3.body (cfg3.bodyArgs t (cfg3.slots t)) = bodyAt3 t := by
  unfold defs₀; rw [Defs.onTc_tc]

/-- The body's obligation at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Run
-- ==== Proof.Region4.lean ====
/- Region 4: the weighted sum of the gathered rows and the two layers after it, 256 tokens per grid point. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionsLoop
public import Idealize.ShloMosaic.Lib.Tactic
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the body leaves in the output's buffer, from the input blocks. -/
def outM (x0 : Vec F S8192x128 .f32) (x1 : Vec F S256x32 .f32) (x2 : Vec F S256x128 .f32) (x3 : Vec F S128x128 .f32) (x4 : Vec F S1x128 .f32) (x5 : Vec F S1x128 .f32) (x6 : Vec F S1x128 .f32) (x7 : Vec F S128x128 .f32) (x8 : Vec F S1x128 .f32) : Vec F S256x128 .f32 :=
  k4_pay1 (k4_pay2 x0 x1 x2 x3 x4 x5) x6 x7 x8

set_option maxHeartbeats 1000000 in
/-- The body on whole arrays: the inputs as they were, the output at `outM` of them. -/
theorem run4 (c : Dev nD) (E : Set ℕ) (i : grid4.Coords) (arg1 : Memref sig .tc .vmem S8192x128 .f32) (harg1 : arg1.IsWhole) (arg2 : Memref sig .tc .vmem S256x32 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S256x128 .f32) (harg10 : arg10.IsWhole)
    (x0 : Vec F S8192x128 .f32) (x1 : Vec F S256x32 .f32) (x2 : Vec F S256x128 .f32) (x3 : Vec F S128x128 .f32) (x4 : Vec F S1x128 .f32) (x5 : Vec F S1x128 .f32) (x6 : Vec F S1x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outM x0 x1 x2 x3 x4 x5 x6 x7 x8)) -∗ K ⟨⟩))
      ⊢ wp frame (wpE (defs₀ (F := F)) Variants.none c none) E (cc4__mlp_body i arg1 harg1 arg2 harg2 arg3 harg3 arg4 harg4 arg5 harg5 arg6 harg6 arg7 harg7 arg8 harg8 arg9 harg9 arg10 harg10) K := by
  simp only [cc4__mlp_body_eq_skeleton]; unfold cc4__mlp_body_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  iexists _; isplitr; swap; · iexact H9
  ipureintro; (try sl_unfold_words)
  rw [View.read_writes_full, View.readAt_full, View.readAt_full, View.readAt_full, View.readAt_full, View.readAt_full, View.readAt_full, View.readAt_full, View.readAt_full, View.readAt_full, hf0, hf1, hf2, hf3, hf4, hf5, hf6, hf7, hf8]; rfl

/-! ## The region at its entry contents `V` -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The output block at point `t`. -/
def outMAt (c : Dev nD) (t : Fin cfg4.N) : Vec F S256x128 .f32 :=
  outM (iblk4 V c 0 t) (iblk4 V c 1 t) (iblk4 V c 2 t) (iblk4 V c 3 t) (iblk4 V c 4 t) (iblk4 V c 5 t) (iblk4 V c 6 t) (iblk4 V c 7 t) (iblk4 V c 8 t)

abbrev ms4_0 (t : Fin cfg4.N) : Memref sig .tc .vmem S8192x128 .f32 := win4_0.stage (cfg4.slots t 0)
abbrev ms4_1 (t : Fin cfg4.N) : Memref sig .tc .vmem S256x32 .f32 := win4_1.stage (cfg4.slots t 1)
abbrev ms4_2 (t : Fin cfg4.N) : Memref sig .tc .vmem S256x128 .f32 := win4_2.stage (cfg4.slots t 2)
abbrev ms4_3 (t : Fin cfg4.N) : Memref sig .tc .vmem S128x128 .f32 := win4_3.stage (cfg4.slots t 3)
abbrev ms4_4 (t : Fin cfg4.N) : Memref sig .tc .vmem S1x128 .f32 := win4_4.stage (cfg4.slots t 4)
abbrev ms4_5 (t : Fin cfg4.N) : Memref sig .tc .vmem S1x128 .f32 := win4_5.stage (cfg4.slots t 5)
abbrev ms4_6 (t : Fin cfg4.N) : Memref sig .tc .vmem S1x128 .f32 := win4_6.stage (cfg4.slots t 6)
abbrev ms4_7 (t : Fin cfg4.N) : Memref sig .tc .vmem S128x128 .f32 := win4_7.stage (cfg4.slots t 7)
abbrev ms4_8 (t : Fin cfg4.N) : Memref sig .tc .vmem S1x128 .f32 := win4_8.stage (cfg4.slots t 8)
abbrev ms4_9 (t : Fin cfg4.N) : Memref sig .tc .vmem S256x128 .f32 := win4_9.stage (cfg4.slots t 9)

/-- The proof data: the arrays as found; the inputs' buffers unchanged; the output's at the output block. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => outMAt V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = outMAt V c t := by dsimp only [dat4]

/-- Each input's current buffer holds its block. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)
theorem before4_6 (c : Dev nD) (t : Fin cfg4.N) (d) : (dat4 V c).before 6 t d = iblk4 V c 6 t :=
  ((dat4 V c).before_in_eq_fetched 6 rfl (fun _ => rfl) (fun _ _ _ => rfl) (fun t => by rw [after4_6]; unfold Dat.blockOf iblk4; rw [A_eq4]; try rfl) t d).trans
    (by unfold Dat.fetched Dat.blockOf iblk4; rw [A_eq4]; try rfl)
theorem before4_7 (c : Dev nD) (t : Fin cfg4.N) (d) : (dat4 V c).before 7 t d = iblk4 V c 7 t :=
  ((dat4 V c).before_in_eq_fetched 7 rfl (fun _ => rfl) (fun _ _ _ => rfl) (fun t => by rw [after4_7]; unfold Dat.blockOf iblk4; rw [A_eq4]; try rfl) t d).trans
    (by unfold Dat.fetched Dat.blockOf iblk4; rw [A_eq4]; try rfl)
theorem before4_8 (c : Dev nD) (t : Fin cfg4.N) (d) : (dat4 V c).before 8 t d = iblk4 V c 8 t :=
  ((dat4 V c).before_in_eq_fetched 8 rfl (fun _ => rfl) (fun _ _ _ => rfl) (fun t => by rw [after4_8]; unfold Dat.blockOf iblk4; rw [A_eq4]; try rfl) t d).trans
    (by unfold Dat.fetched Dat.blockOf iblk4; rw [A_eq4]; try rfl)

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t)
    ∗ owns (c : Thread nD τ) (ms4_9 t) fullShare ((dat4 V c).after 9 t))

set_option maxHeartbeats 800000 in
/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  unfold outMAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row4 (t : Fin cfg4.N) :
    defs₀ (F := F) .tc cfg4.body (cfg4.bodyArgs t (cfg4.slots t)) = bodyAt4 t := by
  unfold defs₀; rw [Defs.onTc_tc]

/-- The body's obligation at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Run
-- ==== Proof.Bounds.lean ====
/- The contents of every buffer at each boundary between @main's segments, from the launch to the return. -/
module

public import proofs.«01_k».proof.Proof.Gen.KernelIdeal.Launch
public import proofs.«01_k».proof.Proof.Gen.KernelIdeal.Points
public import proofs.«01_k».proof.Proof.Region0
public import proofs.«01_k».proof.Proof.Region1
public import proofs.«01_k».proof.Proof.Region2
public import proofs.«01_k».proof.Proof.Region3
public import proofs.«01_k».proof.Proof.Region4
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3, main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call0_v0, main_v5]
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_v6]
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_call1_c, main_call1_v0, main_call1_v1, main_call1_c_0, main_call1_v2, main_call1_v3, main_call1_v4, main_call1_v5, main_v8]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v10]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-- No operation of `hostOps4_1` allocates a buffer. -/
theorem hostOps4_1_fresh : (hostOps4_1 : List (HloOp τ sig (Elt F))).Forall fun op => op.fresh = ∅ := by
  simp only [List.Forall]; repeat' constructor
/-- The reference each operation of `hostOps4_1` writes, in order. -/
abbrev hostOps4_1_W : List (Ref sig .tc) := [main_call2_v0, main_v11]
theorem hostOps4_1_writes : (hostOps4_1 : List (HloOp τ sig (Elt F))).Forall fun op => op.writes ⊆ (hostOps4_1_W.map (Proc.devRef (τ := τ) .tc)).toFinset :=
  StableHlo.forall_writes_sub_of_map rfl
/-- `hostOps4_1` writes none of the argument arrays (checked: each argument against each reference it writes). -/
theorem hostOps4_1_args : ∀ a ∈ argRefs, a ∉ hostOps4_1_W := ListAll.forall_mem_of_all_decide (by decide +kernel)

/-- No operation of `hostOps4_2` allocates a buffer. -/
theorem hostOps4_2_fresh : (hostOps4_2 : List (HloOp τ sig (Elt F))).Forall fun op => op.fresh = ∅ := by
  simp only [List.Forall]; repeat' constructor
/-- The reference each operation of `hostOps4_2` writes, in order. -/
abbrev hostOps4_2_W : List (Ref sig .tc) := [main_v12, main_v13, main_v14, main_v15]
theorem hostOps4_2_writes : (hostOps4_2 : List (HloOp τ sig (Elt F))).Forall fun op => op.writes ⊆ (hostOps4_2_W.map (Proc.devRef (τ := τ) .tc)).toFinset :=
  StableHlo.forall_writes_sub_of_map rfl
/-- `hostOps4_2` writes none of the argument arrays (checked: each argument against each reference it writes). -/
theorem hostOps4_2_args : ∀ a ∈ argRefs, a ∉ hostOps4_2_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v17]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- After `hostOps2_1`. -/
abbrev W5 : Dev nD → Valuation τ sig (Elt F) := fun c => StableHlo.after hostOps2_1 (W4 m ρ c)
/-- A reference `hostOps2_1` does not write keeps its contents across it. -/
theorem W5_of (c : Dev nD) (r : Ref sig .tc) (h : r ∉ hostOps2_1_W) : W5 m ρ c (Proc.devRef .tc r) = W4 m ρ c (Proc.devRef .tc r) :=
  StableHlo.after_of_writes_sub hostOps2_1 _ hostOps2_1_writes h
theorem W5_args (c : Dev nD) : ∀ a ∈ argRefs, W5 m ρ c (Proc.devRef .tc a) = m ((c : Thread nD τ).loc a) :=
  fun a ha => (W5_of m ρ c a (hostOps2_1_args a ha)).trans (W4_args m ρ c a ha)
/-- After `hostOps2_2` (region 2's entry). -/
abbrev W6 : Dev nD → Valuation τ sig (Elt F) := fun c => StableHlo.after hostOps2_2 (W5 m ρ c)
/-- A reference `hostOps2_2` does not write keeps its contents across it. -/
theorem W6_of (c : Dev nD) (r : Ref sig .tc) (h : r ∉ hostOps2_2_W) : W6 m ρ c (Proc.devRef .tc r) = W5 m ρ c (Proc.devRef .tc r) :=
  StableHlo.after_of_writes_sub hostOps2_2 _ hostOps2_2_writes h
theorem W6_args (c : Dev nD) : ∀ a ∈ argRefs, W6 m ρ c (Proc.devRef .tc a) = m ((c : Thread nD τ).loc a) :=
  fun a ha => (W6_of m ρ c a (hostOps2_2_args a ha)).trans (W5_args m ρ c a ha)
/-- The same read at the TensorCore's references (what region 2's proof data take). -/
abbrev V6 : (c : Dev nD) → (b : Ref sig .tc) → Buf (Elt F) ((c : Thread nD τ).loc b) := fun c b => W6 m ρ c b
/-- At region 2's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- A reference that is none of region 2's OUTPUT arrays keeps its entry contents across it: an input window's
    array is never written back (`Dat.arrAt_in`, `A_eq2`); any other buffer is left as is. -/
theorem W7_of (c : Dev nD) (r : Ref sig .tc) (h : ∀ w : Fin cfg2.W, Pipeline.arrRef spec2 w = r → (cfg2.win w).isOut = false) :
    W7 m ρ c (Proc.devRef .tc r) = W6 m ρ c (Proc.devRef .tc r) := by
  by_cases hw : ∃ w : Fin cfg2.W, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn2 a ha)).trans (W6_args m ρ c a ha)
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After `hostOps3` (region 3's entry). -/
abbrev W8 : Dev nD → Valuation τ sig (Elt F) := fun c => StableHlo.after hostOps3 (W7 m ρ c)
/-- A reference `hostOps3` does not write keeps its contents across it. -/
theorem W8_of (c : Dev nD) (r : Ref sig .tc) (h : r ∉ hostOps3_W) : W8 m ρ c (Proc.devRef .tc r) = W7 m ρ c (Proc.devRef .tc r) :=
  StableHlo.after_of_writes_sub hostOps3 _ hostOps3_writes h
theorem W8_args (c : Dev nD) : ∀ a ∈ argRefs, W8 m ρ c (Proc.devRef .tc a) = m ((c : Thread nD τ).loc a) :=
  fun a ha => (W8_of m ρ c a (hostOps3_args a ha)).trans (W7_args m ρ c a ha)
/-- The same read at the TensorCore's references (what region 3's proof data take). -/
abbrev V8 : (c : Dev nD) → (b : Ref sig .tc) → Buf (Elt F) ((c : Thread nD τ).loc b) := fun c b => W8 m ρ c b
/-- At region 3's exit: its arrays at what the pipeline leaves (the inputs as entered, each output's write-backs
    folded: `Dat.arrAt … N`), every other buffer as entered (Lib/Pipeline/FrameSuffix.lean `withArrays`). -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- A reference that is none of region 3's OUTPUT arrays keeps its entry contents across it: an input window's
    array is never written back (`Dat.arrAt_in`, `A_eq3`); any other buffer is left as is. -/
theorem W9_of (c : Dev nD) (r : Ref sig .tc) (h : ∀ w : Fin cfg3.W, Pipeline.arrRef spec3 w = r → (cfg3.win w).isOut = false) :
    W9 m ρ c (Proc.devRef .tc r) = W8 m ρ c (Proc.devRef .tc r) := by
  by_cases hw : ∃ w : Fin cfg3.W, Pipeline.arrRef spec3 w = r
  · obtain ⟨w, rfl⟩ := hw
    exact (W9_arr m ρ c w).trans (((dat3 (V8 m ρ) c).arrAt_in w (h w rfl) _).trans (A_eq3 (V8 m ρ) c w))
  · exact W9_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn3 a ha)).trans (W8_args m ρ c a ha)
/-- The same read at the TensorCore's references (region 3's exit contents). -/
abbrev V9 : (c : Dev nD) → (b : Ref sig .tc) → Buf (Elt F) ((c : Thread nD τ).loc b) := fun c b => W9 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After `hostOps4`. -/
abbrev W10 : Dev nD → Valuation τ sig (Elt F) := fun c => StableHlo.after hostOps4 (W9 m ρ c)
/-- A reference `hostOps4` does not write keeps its contents across it. -/
theorem W10_of (c : Dev nD) (r : Ref sig .tc) (h : r ∉ hostOps4_W) : W10 m ρ c (Proc.devRef .tc r) = W9 m ρ c (Proc.devRef .tc r) :=
  StableHlo.after_of_writes_sub hostOps4 _ hostOps4_writes h
theorem W10_args (c : Dev nD) : ∀ a ∈ argRefs, W10 m ρ c (Proc.devRef .tc a) = m ((c : Thread nD τ).loc a) :=
  fun a ha => (W10_of m ρ c a (hostOps4_args a ha)).trans (W9_args m ρ c a ha)
/-- After `hostOps4_1`. -/
abbrev W11 : Dev nD → Valuation τ sig (Elt F) := fun c => StableHlo.after hostOps4_1 (W10 m ρ c)
/-- A reference `hostOps4_1` does not write keeps its contents across it. -/
theorem W11_of (c : Dev nD) (r : Ref sig .tc) (h : r ∉ hostOps4_1_W) : W11 m ρ c (Proc.devRef .tc r) = W10 m ρ c (Proc.devRef .tc r) :=
  StableHlo.after_of_writes_sub hostOps4_1 _ hostOps4_1_writes h
theorem W11_args (c : Dev nD) : ∀ a ∈ argRefs, W11 m ρ c (Proc.devRef .tc a) = m ((c : Thread nD τ).loc a) :=
  fun a ha => (W11_of m ρ c a (hostOps4_1_args a ha)).trans (W10_args m ρ c a ha)
/-- After `hostOps4_2` (region 4's entry). -/
abbrev W12 : Dev nD → Valuation τ sig (Elt F) := fun c => StableHlo.after hostOps4_2 (W11 m ρ c)
/-- A reference `hostOps4_2` does not write keeps its contents across it. -/
theorem W12_of (c : Dev nD) (r : Ref sig .tc) (h : r ∉ hostOps4_2_W) : W12 m ρ c (Proc.devRef .tc r) = W11 m ρ c (Proc.devRef .tc r) :=
  StableHlo.after_of_writes_sub hostOps4_2 _ hostOps4_2_writes h
theorem W12_args (c : Dev nD) : ∀ a ∈ argRefs, W12 m ρ c (Proc.devRef .tc a) = m ((c : Thread nD τ).loc a) :=
  fun a ha => (W12_of m ρ c a (hostOps4_2_args a ha)).trans (W11_args m ρ c a ha)
/-- The same read at the TensorCore's references (what region 4's proof data take). -/
abbrev V12 : (c : Dev nD) → (b : Ref sig .tc) → Buf (Elt F) ((c : Thread nD τ).loc b) := fun c b => W12 m ρ c b
/-- At region 4's exit: its arrays at what the pipeline leaves (the inputs as entered, each output's write-backs
    folded: `Dat.arrAt … N`), every other buffer as entered (Lib/Pipeline/FrameSuffix.lean `withArrays`). -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
/-- A reference that is none of region 4's OUTPUT arrays keeps its entry contents across it: an input window's
    array is never written back (`Dat.arrAt_in`, `A_eq4`); any other buffer is left as is. -/
theorem W13_of (c : Dev nD) (r : Ref sig .tc) (h : ∀ w : Fin cfg4.W, Pipeline.arrRef spec4 w = r → (cfg4.win w).isOut = false) :
    W13 m ρ c (Proc.devRef .tc r) = W12 m ρ c (Proc.devRef .tc r) := by
  by_cases hw : ∃ w : Fin cfg4.W, Pipeline.arrRef spec4 w = r
  · obtain ⟨w, rfl⟩ := hw
    exact (W13_arr m ρ c w).trans (((dat4 (V12 m ρ) c).arrAt_in w (h w rfl) _).trans (A_eq4 (V12 m ρ) c w))
  · exact W13_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W13_args (c : Dev nD) : ∀ a ∈ argRefs, W13 m ρ c (Proc.devRef .tc a) = m ((c : Thread nD τ).loc a) :=
  fun a ha => (W13_of m ρ c a (argsIn4 a ha)).trans (W12_args m ρ c a ha)
/-- The same read at the TensorCore's references (region 4's exit contents). -/
abbrev V13 : (c : Dev nD) → (b : Ref sig .tc) → Buf (Elt F) ((c : Thread nD τ).loc b) := fun c b => W13 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)

/-- After `hostOps5`. -/
abbrev W14 : Dev nD → Valuation τ sig (Elt F) := fun c => StableHlo.after hostOps5 (W13 m ρ c)
/-- A reference `hostOps5` does not write keeps its contents across it. -/
theorem W14_of (c : Dev nD) (r : Ref sig .tc) (h : r ∉ hostOps5_W) : W14 m ρ c (Proc.devRef .tc r) = W13 m ρ c (Proc.devRef .tc r) :=
  StableHlo.after_of_writes_sub hostOps5 _ hostOps5_writes h
theorem W14_args (c : Dev nD) : ∀ a ∈ argRefs, W14 m ρ c (Proc.devRef .tc a) = m ((c : Thread nD τ).loc a) :=
  fun a ha => (W14_of m ρ c a (hostOps5_args a ha)).trans (W13_args m ρ c a ha)

/-! ### The arguments end as launched: no host stretch writes one and no region may change one (a region reads it
    through an input window or bypasses it) -/

theorem W14_main_arg0 (c : Dev nD) : W14 m ρ c (Proc.devRef .tc main_arg0) = m ((c : Thread nD τ).loc main_arg0) :=
  W14_args m ρ c main_arg0 (by decide)
theorem W14_main_arg1 (c : Dev nD) : W14 m ρ c (Proc.devRef .tc main_arg1) = m ((c : Thread nD τ).loc main_arg1) :=
  W14_args m ρ c main_arg1 (by decide)
theorem W14_main_arg2 (c : Dev nD) : W14 m ρ c (Proc.devRef .tc main_arg2) = m ((c : Thread nD τ).loc main_arg2) :=
  W14_args m ρ c main_arg2 (by decide)
theorem W14_main_arg3 (c : Dev nD) : W14 m ρ c (Proc.devRef .tc main_arg3) = m ((c : Thread nD τ).loc main_arg3) :=
  W14_args m ρ c main_arg3 (by decide)
theorem W14_main_arg4 (c : Dev nD) : W14 m ρ c (Proc.devRef .tc main_arg4) = m ((c : Thread nD τ).loc main_arg4) :=
  W14_args m ρ c main_arg4 (by decide)
theorem W14_main_arg5 (c : Dev nD) : W14 m ρ c (Proc.devRef .tc main_arg5) = m ((c : Thread nD τ).loc main_arg5) :=
  W14_args m ρ c main_arg5 (by decide)
theorem W14_main_arg6 (c : Dev nD) : W14 m ρ c (Proc.devRef .tc main_arg6) = m ((c : Thread nD τ).loc main_arg6) :=
  W14_args m ρ c main_arg6 (by decide)
theorem W14_main_arg7 (c : Dev nD) : W14 m ρ c (Proc.devRef .tc main_arg7) = m ((c : Thread nD τ).loc main_arg7) :=
  W14_args m ρ c main_arg7 (by decide)
theorem W14_main_arg8 (c : Dev nD) : W14 m ρ c (Proc.devRef .tc main_arg8) = m ((c : Thread nD τ).loc main_arg8) :=
  W14_args m ρ c main_arg8 (by decide)

end Cert.KernelIdeal.Run
-- ==== Proof.Run.lean ====
/- The launch: @main's segments run in order, every buffer at its boundary's contents. -/
module

public import proofs.«01_k».proof.Proof.Gen.KernelIdeal.Launch
public import proofs.«01_k».proof.Proof.Gen.KernelIdeal.Points
public import proofs.«01_k».proof.Proof.Bounds
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V6 m ρ) c
  | ⟨3, _⟩ => fun c => dat3 (V8 m ρ) c
  | ⟨4, _⟩ => fun c => dat4 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W14`, the generator register at some state. -/
abbrev Tₙ (c : Dev nD) : sProp 𝕄 := iprop(StableHlo.held (c : Thread nD τ) (Pipeline.ucRefs τ sig) (W14 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) (A_eq2 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W8`, left at `W9`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) (A_eq3 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W12`, left at `W13`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) (A_eq4 (V12 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 14 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .region (reg2 m ρ),
    .host (hseg hostOps3 hostOps3_sub hostOps3_fresh (W7 m ρ)),
    .region (reg3 m ρ),
    .host (hseg hostOps4 hostOps4_sub hostOps4_fresh (W9 m ρ)),
    .host (hseg hostOps4_1 hostOps4_1_sub hostOps4_1_fresh (W10 m ρ)),
    .host (hseg hostOps4_2 hostOps4_2_sub hostOps4_2_fresh (W11 m ρ)),
    .region (reg4 m ρ),
    .host (hseg hostOps5 hostOps5_sub hostOps5_fresh (W13 m ρ)) ]
/-- @main IS the run of the segments: `Gen.main_chain`, then the segments' run against that chain by the kernel's
    definitional check (`chain_rfl`). -/
theorem main_segs (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every fair execution of @main ends, without fault, with the arguments as launched,
    the result at the last boundary's contents and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v17) = W14 m ρ c (Proc.devRef .tc main_v17))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨(fun c =>
      ⟨(h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       h c _ (mem_uc main_v17 (by decide))⟩), funext fun g => hz g (.inr (no_unscoped g.2))⟩)

/-- `run` without the result: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => by
    obtain ⟨h0, h1, h2, h3, h4, h5, h6, h7, h8, -⟩ := h.1 c
    exact ⟨h0, h1, h2, h3, h4, h5, h6, h7, h8⟩, h.2⟩) (run m ρ)

end Cert.KernelIdeal.Run
-- ==== Proof.Frames.lean ====
/- The three programs run, end with their arguments unchanged and with every counter at zero. -/
module

public import proofs.«01_k».proof.Defs
public import proofs.«01_k».proof.Proof.Run
public import proofs.«01_k».proof.Proof.OnBits.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel read at the ideal instance. -/
theorem frame_KernelIdeal : Cert.quiescent_KernelIdeal (hKernelIdeal := Cert.KernelIdeal.Gen.facts) := fun m g _ =>
  Cert.KernelIdeal.Run.frame (F := Ideal) m g

/-- The kernel on bits. -/
theorem frame_Kernel : Cert.quiescent_Kernel (hKernel := Cert.Kernel.Gen.facts) := fun m g _ =>
  Cert.Kernel.Run.frame (F := Bits) m g

/-- The reference read at the ideal instance. -/
theorem frame_ReferenceIdeal : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof

end
-- ==== Proof.Value.Words.lean ====
/- Words and the numbers they hold: the remainder and quotient as the programs print them, and a word carried through a float. -/
module

public import Idealize.ShloMosaic.Lib.Routing.Words
public import Idealize.ShloMosaic.PureOps.Ideal
public import Idealize.ShloMosaic.PureOps.Ideal.Laws

@[expose] public section

noncomputable section

namespace Cert.Words

open Idealize.ShloMosaic

/-- A word below 2³¹, read signed, -/
theorem toInt_word {a : ℕ} (ha : a < 2 ^ 31) : (BitVec.ofNat 32 a).toInt = a := by
  rw [BitVec.toInt_eq_toNat_of_lt (by rw [BitVec.toNat_ofNat, Nat.mod_eq_of_lt (by omega)]; omega), BitVec.toNat_ofNat,
    Nat.mod_eq_of_lt (by omega)]

/-- and one below 2³², read unsigned. -/
theorem toNat_word {a : ℕ} (ha : a < 2 ^ 32) : (BitVec.ofNat 32 a).toNat = a := by
  rw [BitVec.toNat_ofNat, Nat.mod_eq_of_lt ha]

/-- Different numbers are different words. -/
theorem word_inj {a b : ℕ} (ha : a < 2 ^ 32) (hb : b < 2 ^ 32) : BitVec.ofNat 32 a = BitVec.ofNat 32 b ↔ a = b :=
  ⟨fun h => by rw [← toNat_word ha, h, toNat_word hb], fun h => by rw [h]⟩

/-- A word below 2³¹ is not negative, -/
theorem slt_zero {a : ℕ} (ha : a < 2 ^ 31) : IntOp.cmpi .slt (BitVec.ofNat 32 a) 0#32 = 0#1 := by
  show BitVec.ofBool (BitVec.slt _ _) = 0#1
  rw [BitVec.slt_eq_decide, toInt_word ha, decide_eq_false (by simp)]
  rfl

/-- and is positive unless it is zero. -/
theorem sgt_zero {a : ℕ} (ha : a < 2 ^ 31) (h0 : 0 < a) : IntOp.cmpi .sgt (BitVec.ofNat 32 a) 0#32 = 1#1 := by
  show BitVec.ofBool (BitVec.slt _ _) = 1#1
  rw [BitVec.slt_eq_decide, toInt_word ha, decide_eq_true (by simpa using h0)]
  rfl

/-- Zero and a bit. -/
theorem andi_zero_left (w : BitVec 1) : IntOp.andi 0#1 w = 0#1 := by unfold IntOp.andi; simp
/-- A bit and zero. -/
theorem andi_zero_right (w : BitVec 1) : IntOp.andi w 0#1 = 0#1 := by unfold IntOp.andi; simp

/-- The printed remainder of a non-negative word. -/
theorem fmod_word {a n : ℕ} (ha : a < 2 ^ 31) (h0 : 0 < n) (hn : n < 2 ^ 31) :
    Scalar.select (IntOp.andi (IntOp.xori (IntOp.cmpi .slt (IntOp.remsi .vector (BitVec.ofNat 32 a) (BitVec.ofNat 32 n)) 0#32)
        (Scalar.cmpi .slt (BitVec.ofNat 32 n) 0#32))
        (IntOp.cmpi .ne (IntOp.remsi .vector (BitVec.ofNat 32 a) (BitVec.ofNat 32 n)) 0#32))
      (IntOp.addi (IntOp.remsi .vector (BitVec.ofNat 32 a) (BitVec.ofNat 32 n)) (BitVec.ofNat 32 n))
      (IntOp.remsi .vector (BitVec.ofNat 32 a) (BitVec.ofNat 32 n)) = BitVec.ofNat 32 (a % n) := by
  have hm : a % n < 2 ^ 31 := (Nat.mod_lt _ h0).trans hn
  have e : Scalar.cmpi .slt (BitVec.ofNat 32 n) 0#32 = 0#1 := slt_zero hn
  rw [Routing.remsi_word _ ha h0 hn, slt_zero hm, e]
  have : IntOp.xori 0#1 0#1 = 0#1 := rfl
  rw [this, andi_zero_left]
  rfl

/-- The printed quotient of a non-negative word by a positive one. -/
theorem fdiv_word {a n : ℕ} (ha : a < 2 ^ 31) (h0 : 0 < n) (hn : n < 2 ^ 31) :
    Scalar.select (IntOp.andi (IntOp.cmpi .ne
          (IntOp.subi (BitVec.setWidth 32 (IntOp.cmpi .sgt (BitVec.ofNat 32 a) 0#32)) (BitVec.setWidth 32 (IntOp.cmpi .slt (BitVec.ofNat 32 a) 0#32)))
          (Scalar.subi (Scalar.extui (Scalar.cmpi .sgt (BitVec.ofNat 32 n) 0#32)) (Scalar.extui (Scalar.cmpi .slt (BitVec.ofNat 32 n) 0#32))))
        (IntOp.cmpi .ne (IntOp.remsi .vector (BitVec.ofNat 32 a) (BitVec.ofNat 32 n)) 0#32))
      (IntOp.subi (IntOp.divsi .vector (BitVec.ofNat 32 a) (BitVec.ofNat 32 n)) 1#32)
      (IntOp.divsi .vector (BitVec.ofNat 32 a) (BitVec.ofNat 32 n)) = BitVec.ofNat 32 (a / n) := by
  have e1 : Scalar.cmpi .slt (BitVec.ofNat 32 n) 0#32 = 0#1 := slt_zero hn
  have e2 : Scalar.cmpi .sgt (BitVec.ofNat 32 n) 0#32 = 1#1 := sgt_zero hn h0
  rw [Routing.remsi_word _ ha h0 hn, Routing.divsi_word _ ha h0 hn, slt_zero ha, e1, e2]
  rcases Nat.eq_zero_or_pos a with rfl | hp
  · rw [Nat.zero_mod]
    have : IntOp.cmpi .ne (BitVec.ofNat 32 0) 0#32 = 0#1 := rfl
    rw [this, andi_zero_right]
    rfl
  · rw [sgt_zero ha hp]
    have : IntOp.cmpi .ne (IntOp.subi (BitVec.setWidth 32 1#1) (BitVec.setWidth 32 0#1))
      (Scalar.subi (Scalar.extui 1#1) (Scalar.extui 0#1)) = 0#1 := rfl
    rw [this, andi_zero_left]
    rfl

/-- Products of words -/
theorem muli_word {a b : ℕ} : IntOp.muli (BitVec.ofNat 32 a) (BitVec.ofNat 32 b) = BitVec.ofNat 32 (a * b) := by
  unfold IntOp.muli; rw [BitVec.ofNat_mul]

/-- and sums. -/
theorem addi_word {a b : ℕ} : IntOp.addi (BitVec.ofNat 32 a) (BitVec.ofNat 32 b) = BitVec.ofNat 32 (a + b) := by
  unfold IntOp.addi; rw [BitVec.ofNat_add]

/-- A word read as a number over the reals. -/
theorem sitofp_def (w : BitVec 32) : FloatOps.sitofp (F := Ideal) .f32 w = ((w.toInt : ℝ) : EReal) := rfl

/-- A word carried through a float comes back. -/
theorem fptosi_sitofp (w : BitVec 32) : FloatOps.fptosi (F := Ideal) (φ := .f32) 32 ((w.toInt : ℝ) : EReal) = w := by
  show Ideal.fptosi 32 ((w.toInt : ℝ) : EReal) = w
  have h1 := BitVec.toInt_lt (x := w)
  have h2 := BitVec.le_toInt (x := w)
  unfold Ideal.fptosi
  rw [Ideal.toIntClamped_coe]
  simp only [Int.floor_intCast, Int.ceil_intCast, ite_self]
  have e : max (-((2 ^ (32 - 1) : ℕ) : ℤ)) (min (((2 ^ (32 - 1) : ℕ) : ℤ) - 1) w.toInt) = w.toInt := by
    norm_num at h1 h2 ⊢
    omega
  rw [e, BitVec.ofInt_toInt]

/-- A sum against the indicator of one position is the entry there. -/
theorem sum_indicator {n : ℕ} (hn : n < 2 ^ 31) (f : Fin n → EReal) (k0 : Fin n) (m : ℕ) (hm : m = k0.val) :
    ∑ k : Fin n, f k * FloatOps.sitofp (F := Ideal) .f32 (BitVec.setWidth 32 (IntOp.cmpi .eq (BitVec.ofNat 32 k.val) (BitVec.ofNat 32 m))) = f k0 := by
  subst hm
  rw [Finset.sum_eq_single k0]
  · have : IntOp.cmpi .eq (BitVec.ofNat 32 k0.val) (BitVec.ofNat 32 k0.val) = 1#1 := by
      show BitVec.ofBool (_ == _) = 1#1
      simp
    rw [this, sitofp_def]
    have : (BitVec.setWidth 32 1#1).toInt = 1 := by decide
    rw [this]; simp
  · intro k _ hk
    have : IntOp.cmpi .eq (BitVec.ofNat 32 k.val) (BitVec.ofNat 32 k0.val) = 0#1 := by
      show BitVec.ofBool (_ == _) = 0#1
      rw [beq_false_of_ne]
      · rfl
      · rw [ne_eq, word_inj (by omega) (by omega)]
        exact fun h => hk (Fin.ext h)
    rw [this, sitofp_def]
    have : (BitVec.setWidth 32 0#1).toInt = 0 := by decide
    rw [this]; simp
  · intro h; exact absurd (Finset.mem_univ _) h

end Cert.Words
-- ==== Proof.Value.Gathers.lean ====
module

public import proofs.«01_k».proof.Proof.Region0
public import proofs.«01_k».proof.Proof.Value.Words
public import Idealize.ShloMosaic.Lib.ValueIdx
public import Idealize.ShloMosaic.Lib.Pointwise

/-! The gathers of this program, read at an index whose start word is a row number in range. -/

@[expose] public section

set_option maxRecDepth 16384

noncomputable section

namespace Cert.KernelIdeal

open Idealize.ShloMosaic Cert.KernelIdeal Cert.KernelIdeal.Gen

variable {α : Type}

/-- A word in range, read signed and clamped, is itself. -/
theorem clamp_word (n N : ℕ) (hn : n < N) (hN : N < 2 ^ 31) : min (BitVec.ofNat 32 n).toInt.toNat (N - 1) = n := by
  rw [Words.toInt_word (a := n) (by omega)]
  show min n (N - 1) = n
  omega

/-- An element of the flattened group maxima. -/
theorem take_flat_apply (x : S4194304.Idx → α) (idx : IVec S524288x1 32) (p : Fin 524288) (n : ℕ) (hn : n < 4194304) (h : idx (ix2 p (0 : Fin 1)) = BitVec.ofNat 32 n) :
    Host.gather gather_S4194304_S524288x1_S524288_n_0_n_n_0_1_1 x idx (ix1 p) = x (ix1 (⟨n, hn⟩ : Fin 4194304)) := by
  unfold Host.gather
  congr 1
  funext a
  refine Fin.ext ?_
  show gather_S4194304_S524288x1_S524288_n_0_n_n_0_1_1.start (ix1 p) idx a + gather_S4194304_S524288x1_S524288_n_0_n_n_0_1_1.batchCoord (ix1 p) a + gather_S4194304_S524288x1_S524288_n_0_n_n_0_1_1.offCoord (ix1 p) a = _
  match a with
  | ⟨0, _⟩ =>
    show gather_S4194304_S524288x1_S524288_n_0_n_n_0_1_1.start (ix1 p) idx (0 : Fin 1) + gather_S4194304_S524288x1_S524288_n_0_n_n_0_1_1.batchCoord (ix1 p) (0 : Fin 1) + gather_S4194304_S524288x1_S524288_n_0_n_n_0_1_1.offCoord (ix1 p) (0 : Fin 1) = n
    rw [GatherDims.batchCoord_eq_zero _ _ _ (by decide), GatherDims.offCoord_eq_zero _ _ _ (by decide)]
    simp only [Nat.add_zero]
    unfold GatherDims.start
    rw [dif_pos (show (0 : Fin 1) ∈ gather_S4194304_S524288x1_S524288_n_0_n_n_0_1_1.startIndexMap from List.mem_singleton.mpr rfl)]
    have hsi : gather_S4194304_S524288x1_S524288_n_0_n_n_0_1_1.siIdx (ix1 p) ⟨List.idxOf (0 : Fin 1) gather_S4194304_S524288x1_S524288_n_0_n_n_0_1_1.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi, h]
    exact clamp_word n 4194304 hn (by omega)

/-- An element of a row, its column given by the same row's word. -/
theorem take_along_apply (x : S1024x65536.Idx → α) (idx : IVec S1024x512x1 32) (r : Fin 1024) (q : Fin 512) (n : ℕ) (hn : n < 65536) (h : idx (ix3 r q (0 : Fin 1)) = BitVec.ofNat 32 n) :
    Host.gather gather_S1024x65536_S1024x512x1_S1024x512_n_1_0_0_1_2_11 x idx (ix2 r q) = x (ix2 r (⟨n, hn⟩ : Fin 65536)) := by
  unfold Host.gather
  congr 1
  funext a
  refine Fin.ext ?_
  show gather_S1024x65536_S1024x512x1_S1024x512_n_1_0_0_1_2_11.start (ix2 r q) idx a + gather_S1024x65536_S1024x512x1_S1024x512_n_1_0_0_1_2_11.batchCoord (ix2 r q) a + gather_S1024x65536_S1024x512x1_S1024x512_n_1_0_0_1_2_11.offCoord (ix2 r q) a = _
  match a with
  | ⟨0, _⟩ =>
    show gather_S1024x65536_S1024x512x1_S1024x512_n_1_0_0_1_2_11.start (ix2 r q) idx (0 : Fin 2) + gather_S1024x65536_S1024x512x1_S1024x512_n_1_0_0_1_2_11.batchCoord (ix2 r q) (0 : Fin 2) + gather_S1024x65536_S1024x512x1_S1024x512_n_1_0_0_1_2_11.offCoord (ix2 r q) (0 : Fin 2) = _
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    show gather_S1024x65536_S1024x512x1_S1024x512_n_1_0_0_1_2_11.start (ix2 r q) idx (1 : Fin 2) + gather_S1024x65536_S1024x512x1_S1024x512_n_1_0_0_1_2_11.batchCoord (ix2 r q) (1 : Fin 2) + gather_S1024x65536_S1024x512x1_S1024x512_n_1_0_0_1_2_11.offCoord (ix2 r q) (1 : Fin 2) = n
    rw [GatherDims.batchCoord_eq_zero _ _ _ (by decide), GatherDims.offCoord_eq_zero _ _ _ (by decide)]
    simp only [Nat.add_zero]
    unfold GatherDims.start
    rw [dif_pos (show (1 : Fin 2) ∈ gather_S1024x65536_S1024x512x1_S1024x512_n_1_0_0_1_2_11.startIndexMap from List.mem_singleton.mpr rfl)]
    have hsi : gather_S1024x65536_S1024x512x1_S1024x512_n_1_0_0_1_2_11.siIdx (ix2 r q) ⟨List.idxOf (1 : Fin 2) gather_S1024x65536_S1024x512x1_S1024x512_n_1_0_0_1_2_11.startIndexMap,
        List.idxOf_lt_length_iff.2 (List.mem_singleton.mpr rfl)⟩ = ix3 r q (0 : Fin 1) := by
      funext b; refine Fin.ext ?_
      match b with
      | ⟨0, _⟩ => rfl
      | ⟨1, _⟩ => rfl
      | ⟨2, _⟩ => rfl
    rw [hsi, h]
    exact clamp_word n 65536 hn (by omega)

/-- An element of a recalled row. -/
theorem take_rows_apply (x : S65536x128.Idx → α) (idx : IVec S32768x1 32) (p : Fin 32768) (d : Fin 128) (n : ℕ) (hn : n < 65536) (h : idx (ix2 p (0 : Fin 1)) = BitVec.ofNat 32 n) :
    Host.gather gather_S65536x128_S32768x1_S32768x128_1_0_n_n_0_1_1128 x idx (ix2 p d) = x (ix2 (⟨n, hn⟩ : Fin 65536) d) := by
  unfold Host.gather
  congr 1
  funext a
  refine Fin.ext ?_
  show gather_S65536x128_S32768x1_S32768x128_1_0_n_n_0_1_1128.start (ix2 p d) idx a + gather_S65536x128_S32768x1_S32768x128_1_0_n_n_0_1_1128.batchCoord (ix2 p d) a + gather_S65536x128_S32768x1_S32768x128_1_0_n_n_0_1_1128.offCoord (ix2 p d) a = _
  match a with
  | ⟨0, _⟩ =>
    show gather_S65536x128_S32768x1_S32768x128_1_0_n_n_0_1_1128.start (ix2 p d) idx (0 : Fin 2) + gather_S65536x128_S32768x1_S32768x128_1_0_n_n_0_1_1128.batchCoord (ix2 p d) (0 : Fin 2) + gather_S65536x128_S32768x1_S32768x128_1_0_n_n_0_1_1128.offCoord (ix2 p d) (0 : Fin 2) = n
    rw [GatherDims.batchCoord_eq_zero _ _ _ (by decide), GatherDims.offCoord_eq_zero _ _ _ (by decide)]
    simp only [Nat.add_zero]
    unfold GatherDims.start
    rw [dif_pos (show (0 : Fin 2) ∈ gather_S65536x128_S32768x1_S32768x128_1_0_n_n_0_1_1128.startIndexMap from List.mem_singleton.mpr rfl)]
    have hsi : gather_S65536x128_S32768x1_S32768x128_1_0_n_n_0_1_1128.siIdx (ix2 p d) ⟨List.idxOf (0 : Fin 2) gather_S65536x128_S32768x1_S32768x128_1_0_n_n_0_1_1128.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi, h]
    exact clamp_word n 65536 hn (by omega)
  | ⟨1, _⟩ =>
    show gather_S65536x128_S32768x1_S32768x128_1_0_n_n_0_1_1128.start (ix2 p d) idx (1 : Fin 2) + gather_S65536x128_S32768x1_S32768x128_1_0_n_n_0_1_1128.batchCoord (ix2 p d) (1 : Fin 2) + gather_S65536x128_S32768x1_S32768x128_1_0_n_n_0_1_1128.offCoord (ix2 p d) (1 : Fin 2) = _
    rw [GatherDims.batchCoord_eq_zero _ _ _ (by decide)]
    unfold GatherDims.start GatherDims.offCoord
    rw [dif_neg (by decide), dif_pos (by decide)]
    simp only [Nat.zero_add, Nat.add_zero]
    rfl

end Cert.KernelIdeal
-- ==== Proof.Value.Row.lean ====
module

public import Idealize.ShloMosaic.PureOps.Ideal.Laws

/-! One row of the two-layer head, as plain sums: a linear map, the layer's mean and variance, the scaled and shifted
difference, the positive part and the second linear map. Both programs' rows are this function. -/

@[expose] public section

noncomputable section

namespace Cert.Row

open Idealize.ShloMosaic

/-- A linear map of a row. -/
def lin (f : Fin 128 → EReal) (w : Fin 128 → Fin 128 → EReal) (b : Fin 128 → EReal) (j : Fin 128) : EReal :=
  ∑ d, f d * w d j + b j

/-- The number of columns, as the programs spell it, -/
def cols : EReal := Ideal.ofBits FTy.f32 1124073472#32

/-- and the small number added to the variance. -/
def small : EReal := Ideal.ofBits FTy.f32 925353388#32

/-- The mean of a row. -/
def mean (h : Fin 128 → EReal) : EReal := Ideal.div (∑ j, h j) cols

/-- The variance of a row. -/
def var (h : Fin 128 → EReal) : EReal := Ideal.div (∑ j, (h j - mean h) * (h j - mean h)) cols

/-- The normalized row, scaled. -/
def norm (h g : Fin 128 → EReal) (j : Fin 128) : EReal := Ideal.div (h j - mean h) (Ideal.sqrt (var h + small)) * g j

/-- The head's row. -/
def head (f : Fin 128 → EReal) (w1 : Fin 128 → Fin 128 → EReal) (b1 g b : Fin 128 → EReal) (w2 : Fin 128 → Fin 128 → EReal)
    (b2 : Fin 128 → EReal) (j : Fin 128) : EReal :=
  lin (fun x => max (norm (lin f w1 b1) g x + b x) 0) w2 b2 j

/-- A row with its recalled rows added, each at its weight. -/
def fused (tok : Fin 128 → EReal) (mem : Fin 32 → Fin 128 → EReal) (w : Fin 32 → EReal) (d : Fin 128) : EReal :=
  tok d + ∑ k, mem k d * w k

/-- What the greatest entry is taken from: minus infinity, as the programs spell it. -/
def low : EReal := Ideal.ofBits FTy.f32 4286578688#32

/-- The greatest of 32 entries. -/
def top (v : Fin 32 → EReal) : EReal := max low (Finset.fold max low v Finset.univ)

/-- The greatest entry is never below what it is taken from, so comparing with that once more changes nothing. -/
theorem top_eq (v : Fin 32 → EReal) : top v = Finset.fold max low v Finset.univ :=
  max_eq_right ((Finset.le_fold_max low).mpr (.inl le_rfl))

/-- The weights of 32 entries. -/
def soft (v : Fin 32 → EReal) (k : Fin 32) : EReal := Ideal.div (Ideal.exp (v k - top v)) (∑ x, Ideal.exp (v x - top v))

/-- The greatest entry does not depend on the order of the entries, -/
theorem top_perm (σ : Fin 32 ≃ Fin 32) (v : Fin 32 → EReal) : top (fun k => v (σ k)) = top v := by
  unfold top
  congr 1
  have h := Finset.fold_map (op := max) (b := low) (f := v) (s := Finset.univ) (g := σ.toEmbedding)
  rw [Finset.map_univ_equiv] at h
  exact h.symm

/-- nor do the weights, -/
theorem soft_perm (σ : Fin 32 ≃ Fin 32) (v : Fin 32 → EReal) (k : Fin 32) : soft (fun k => v (σ k)) k = soft v (σ k) := by
  unfold soft
  rw [top_perm]
  congr 1
  exact Equiv.sum_comp σ fun x => Ideal.exp (v x - top v)

/-- nor does the row with the recalled rows added. -/
theorem fused_perm (σ : Fin 32 ≃ Fin 32) (tok : Fin 128 → EReal) (mem : Fin 32 → Fin 128 → EReal) (w : Fin 32 → EReal) (d : Fin 128) :
    fused tok (fun k => mem (σ k)) (fun k => w (σ k)) d = fused tok mem w d := by
  unfold fused
  congr 1
  exact Equiv.sum_comp σ fun k => mem k d * w k

end Cert.Row
-- ==== Proof.Value.Host.lean ====
module

public import proofs.«01_k».proof.Proof.Run
public import proofs.«01_k».proof.Proof.Value.Gathers
public import proofs.«01_k».proof.Proof.Value.Words
public import proofs.«01_k».proof.Proof.Value.Row
public import Idealize.ShloMosaic.PureOps.Ideal.Laws
public import Idealize.ShloMosaic.Lib.Pointwise

/-! What the host operations between the regions leave, at an index. -/

@[expose] public section

set_option maxRecDepth 16384

noncomputable section

namespace Cert.KernelIdeal.Run

open Cert.KernelIdeal Cert.KernelIdeal.Gen Idealize.ShloMosaic Idealize.ShloMosaic.TcCoe Idealize.SL.Sem Idealize.ShloMosaic.StableHlo

variable (V : Valuation τ sig (Elt Ideal))

/-- Before the first call: the tokens as rows. -/
theorem rows_eq : StableHlo.after (hostOps0 (F := Ideal)) V (Proc.devRef .tc main_v0) = shapeCast S1024x128 (V (Proc.devRef .tc main_arg0)) shapeCasts_S2x512x128_S1024x128 := rfl

/-- After the second call: the group maxima, flattened, -/
theorem flat_eq : StableHlo.after (hostOps2 (F := Ideal)) V (Proc.devRef .tc main_v3) = shapeCast S4194304 (V (Proc.devRef .tc main_v1_1)) shapeCasts_S1024x4096_S4194304 := rfl

/-- the candidates' words, flattened, -/
theorem cand_eq : StableHlo.after (hostOps2 (F := Ideal)) V (Proc.devRef .tc main_v4) = shapeCast S524288 (V (Proc.devRef .tc main_v2)) shapeCasts_S1024x512_S524288 := rfl

/-- the gathered maxima -/
theorem taken_eq : StableHlo.after (hostOps2_1 (F := Ideal)) V (Proc.devRef .tc main_v5)
    = Host.gather gather_S4194304_S524288x1_S524288_n_0_n_n_0_1_1 (V (Proc.devRef .tc main_v3)) (broadcastInDim S524288x1 ![0] bcast_S524288_S524288x1_0 (V (Proc.devRef .tc main_v4))) := rfl

/-- and these as rows. -/
theorem unflat_eq : StableHlo.after (hostOps2_2 (F := Ideal)) V (Proc.devRef .tc main_v6) = shapeCast S1024x512 (V (Proc.devRef .tc main_v5)) shapeCasts_S524288_S1024x512 := rfl

/-- After the third call: the similarities along the rows. -/
theorem along_eq : StableHlo.after (hostOps3 (F := Ideal)) V (Proc.devRef .tc main_v8)
    = Host.gather gather_S1024x65536_S1024x512x1_S1024x512_n_1_0_0_1_2_11 (V (Proc.devRef .tc main_v1_0))
      (shapeCast S1024x512x1 (select (cmpi .slt (V (Proc.devRef .tc main_v7)) (broadcastInDim S1024x512 ![] bcast_S_S1024x512 (constantI S_ 32 0#32)))
        (addi (V (Proc.devRef .tc main_v7)) (broadcastInDim S1024x512 ![] bcast_S_S1024x512 (constantI S_ 32 65536#32))) (V (Proc.devRef .tc main_v7))) shapeCasts_S1024x512_S1024x512x1) := rfl

/-- After the fourth call: the selected columns' words, flattened, -/
theorem sel_eq : StableHlo.after (hostOps4 (F := Ideal)) V (Proc.devRef .tc main_v10) = shapeCast S32768 (V (Proc.devRef .tc main_v9_1)) shapeCasts_S1024x32_S32768 := rfl

/-- the recalled rows, -/
theorem mem_eq : StableHlo.after (hostOps4_1 (F := Ideal)) V (Proc.devRef .tc main_v11)
    = Host.gather gather_S65536x128_S32768x1_S32768x128_1_0_n_n_0_1_1128 (V (Proc.devRef .tc main_arg2)) (broadcastInDim S32768x1 ![0] bcast_S32768_S32768x1_0 (V (Proc.devRef .tc main_v10))) := rfl

/-- the first bias as a row, -/
theorem b1_eq : StableHlo.after (hostOps4_2 (F := Ideal)) V (Proc.devRef .tc main_v12) = shapeCast S1x128 (V (Proc.devRef .tc main_arg4)) shapeCasts_S128_S1x128 := rfl
/-- the scale, -/
theorem g_eq : StableHlo.after (hostOps4_2 (F := Ideal)) V (Proc.devRef .tc main_v13) = shapeCast S1x128 (V (Proc.devRef .tc main_arg5)) shapeCasts_S128_S1x128 := rfl
/-- the shift -/
theorem b_eq : StableHlo.after (hostOps4_2 (F := Ideal)) V (Proc.devRef .tc main_v14) = shapeCast S1x128 (V (Proc.devRef .tc main_arg6)) shapeCasts_S128_S1x128 := rfl
/-- and the second bias. -/
theorem b2_eq : StableHlo.after (hostOps4_2 (F := Ideal)) V (Proc.devRef .tc main_v15) = shapeCast S1x128 (V (Proc.devRef .tc main_arg8)) shapeCasts_S128_S1x128 := rfl

/-- After the last call: the result. -/
theorem res_eq : StableHlo.after (hostOps5 (F := Ideal)) V (Proc.devRef .tc main_v17) = shapeCast S2x512x128 (V (Proc.devRef .tc main_v16)) shapeCasts_S1024x128_S2x512x128 := rfl

/-- A flat candidate number is in range. -/
theorem row_lt (r : Fin 1024) (q : Fin 512) : r.val * 512 + q.val < 524288 := by omega

/-- The gathered group maximum of a candidate whose word is `p` in row `a`. -/
theorem taken_apply (x : Vec Ideal S1024x4096 .f32) (w : IVec S1024x512 32) (r : Fin 1024) (q : Fin 512) (a : Fin 1024) (p : Fin 4096)
    (h : w (ix2 r q) = BitVec.ofNat 32 (a.val * 4096 + p.val)) :
    shapeCast S1024x512 (Host.gather gather_S4194304_S524288x1_S524288_n_0_n_n_0_1_1 (shapeCast S4194304 x shapeCasts_S1024x4096_S4194304)
      (broadcastInDim S524288x1 ![0] bcast_S524288_S524288x1_0 (shapeCast S524288 w shapeCasts_S1024x512_S524288))) shapeCasts_S524288_S1024x512 (ix2 r q) = x (ix2 a p) := by
  have hw : (broadcastInDim S524288x1 ![0] bcast_S524288_S524288x1_0 (shapeCast S524288 w shapeCasts_S1024x512_S524288)) (ix2 (⟨r.val * 512 + q.val, row_lt r q⟩ : Fin 524288) (0 : Fin 1))
      = BitVec.ofNat 32 (a.val * 4096 + p.val) := by
    rw [← h]
    pointwise []
  have e := take_flat_apply (shapeCast S4194304 x shapeCasts_S1024x4096_S4194304) _ _ _ (by omega) hw
  generalize Host.gather gather_S4194304_S524288x1_S524288_n_0_n_n_0_1_1 (shapeCast S4194304 x shapeCasts_S1024x4096_S4194304)
      (broadcastInDim S524288x1 ![0] bcast_S524288_S524288x1_0 (shapeCast S524288 w shapeCasts_S1024x512_S524288)) = y at e ⊢
  pointwise []
  refine e.trans ?_
  pointwise []

/-- The similarity of a candidate whose word is `n`. -/
theorem along_apply (x : Vec Ideal S1024x65536 .f32) (w : IVec S1024x512 32) (r : Fin 1024) (q : Fin 512) (n : Fin 65536)
    (h : w (ix2 r q) = BitVec.ofNat 32 n.val) :
    Host.gather gather_S1024x65536_S1024x512x1_S1024x512_n_1_0_0_1_2_11 x
      (shapeCast S1024x512x1 (select (cmpi .slt w (broadcastInDim S1024x512 ![] bcast_S_S1024x512 (constantI S_ 32 0#32)))
        (addi w (broadcastInDim S1024x512 ![] bcast_S_S1024x512 (constantI S_ 32 65536#32))) w) shapeCasts_S1024x512_S1024x512x1) (ix2 r q) = x (ix2 r n) := by
  refine take_along_apply x _ r q n.val n.isLt ?_
  pointwise []
  rw [h, Words.slt_zero (by omega)]
  rfl

/-- The recalled row of a column whose word is `n`. -/
theorem mem_apply (x : Vec Ideal S65536x128 .f32) (w : IVec S1024x32 32) (r : Fin 1024) (k : Fin 32) (d : Fin 128) (n : Fin 65536)
    (h : w (ix2 r k) = BitVec.ofNat 32 n.val) :
    Host.gather gather_S65536x128_S32768x1_S32768x128_1_0_n_n_0_1_1128 x
      (broadcastInDim S32768x1 ![0] bcast_S32768_S32768x1_0 (shapeCast S32768 w shapeCasts_S1024x32_S32768)) (ix2 (⟨r.val * 32 + k.val, by omega⟩ : Fin 32768) d) = x (ix2 n d) := by
  refine take_rows_apply x _ _ d n.val n.isLt ?_
  pointwise []
  exact h

/-- A bias as a row. -/
theorem bias_apply (x : Vec Ideal S128 .f32) (j : Fin 128) : shapeCast S1x128 x shapeCasts_S128_S1x128 (ix2 (0 : Fin 1) j) = x (ix1 j) := by
  pointwise []

/-- The tokens as rows. -/
theorem rows_apply (x : Vec Ideal S2x512x128 .f32) (a : Fin 2) (b : Fin 512) (j : Fin 128) :
    shapeCast S1024x128 x shapeCasts_S2x512x128_S1024x128 (ix2 (⟨a.val * 512 + b.val, by omega⟩ : Fin 1024) j) = x (ix3 a b j) := by
  pointwise []

/-- The result's rows. -/
theorem res_apply (x : Vec Ideal S1024x128 .f32) (a : Fin 2) (b : Fin 512) (j : Fin 128) :
    shapeCast S2x512x128 x shapeCasts_S1024x128_S2x512x128 (ix3 a b j) = x (ix2 (⟨a.val * 512 + b.val, by omega⟩ : Fin 1024) j) := by
  pointwise []

/-- The weights, of the values found. -/
theorem soft_apply (x : Vec Ideal S1024x32 .f32) (t : Fin 1024) (k : Fin 32) :
    k3_pay9 (F := Ideal) x (ix2 t k) = Row.soft (fun k => x (ix2 t k)) k := by
  have e : Row.top (fun k => x (ix2 t k)) = Finset.fold max (Ideal.ofBits FTy.f32 4286578688#32) (fun k => x (ix2 t k)) Finset.univ := Row.top_eq _
  unfold Row.soft
  rw [e]
  pointwise [k3_pay9]

end Cert.KernelIdeal.Run
-- ==== Proof.Value.Single.lean ====
module

public import proofs.«01_k».proof.Proof.Region1
public import proofs.«01_k».proof.Proof.Region2
public import proofs.«01_k».proof.Proof.Region3
public import Idealize.ShloMosaic.Lib.Pipeline.Value
public import Idealize.ShloMosaic.PureOps.Ideal.Laws

/-! The arrays the three selection calls leave: each call has one grid point whose blocks are whole arrays, so an array ends
holding what the body computes of the whole arrays it reads. -/

@[expose] public section

set_option maxRecDepth 16384

noncomputable section

namespace Cert.KernelIdeal.Run

open Idealize.ShloMosaic Idealize.ShloMosaic.TcCoe Idealize.SL.Sem Cert.KernelIdeal Cert.KernelIdeal.Gen
open Idealize.ShloMosaic.Pipeline (Dat Window)

variable (V : (c : Dev nD) → (b : Ref sig .tc) → Buf (Elt Ideal) ((c : Thread nD τ).loc b)) (c : Dev nD)

/-- Where the window's blocks lie. -/
theorem ext1_0 : ∀ t : Fin cfg1.N, win1_0.index t 0 * win1_0.size 0 = 0 ∧ win1_0.xsize (grid1.coords t) 0 = 1024
    ∧ win1_0.index t 1 * win1_0.size 1 = 0 ∧ win1_0.xsize (grid1.coords t) 1 = 256 := by decide +kernel

/-- An index of a block, in the array. -/
theorem emb1_0 (t : Fin cfg1.N) (i : S1024x256.Idx) : (win1_0.rect t).emb i = i := by
  funext a
  apply Fin.ext
  rw [Window.rect_emb_val win1_0]
  match a with
  | ⟨0, _⟩ => show win1_0.index t 0 * win1_0.size 0 + (i 0).val = (i 0).val
              rw [(ext1_0 t).1]; omega
  | ⟨1, _⟩ => show win1_0.index t 1 * win1_0.size 1 + (i 1).val = (i 1).val
              rw [(ext1_0 t).2.2.1]; omega

/-- What a step reads of the array. -/
theorem iblk1_0_eq (t : Fin cfg1.N) : iblk1 V c 0 t = V c main_v1_2 := by
  funext i
  unfold iblk1
  rw [View.read_apply]
  show V c main_v1_2 ((win1_0.rect t).emb i) = _
  exact congrArg (V c main_v1_2) (emb1_0 t i)

/-- Where the window's blocks lie. -/
theorem ext1_1 : ∀ t : Fin cfg1.N, win1_1.index t 0 * win1_1.size 0 = 0 ∧ win1_1.xsize (grid1.coords t) 0 = 1024
    ∧ win1_1.index t 1 * win1_1.size 1 = 0 ∧ win1_1.xsize (grid1.coords t) 1 = 512 := by decide +kernel

/-- An index of a block, in the array. -/
theorem emb1_1 (t : Fin cfg1.N) (i : S1024x512.Idx) : (win1_1.rect t).emb i = i := by
  funext a
  apply Fin.ext
  rw [Window.rect_emb_val win1_1]
  match a with
  | ⟨0, _⟩ => show win1_1.index t 0 * win1_1.size 0 + (i 0).val = (i 0).val
              rw [(ext1_1 t).1]; omega
  | ⟨1, _⟩ => show win1_1.index t 1 * win1_1.size 1 + (i 1).val = (i 1).val
              rw [(ext1_1 t).2.2.1]; omega

/-- What a step writes back. -/
theorem flushed1_1 (t : Fin cfg1.N) : (dat1 V c).flushed 1 t = (win1_1.blk t).view.read (Elt Ideal) (outB (F := Ideal) (V c main_v1_2)) := by
  show (cfg1.win 1).cut (grid1.coords t) ((dat1 V c).after 1 t) = _
  rw [after1_1, iblk1_0_eq]
  generalize (outB (F := Ideal) (V c main_v1_2)) = y
  funext i
  rw [View.read_apply]
  show _ = y ((win1_1.rect t).emb i)
  exact (congrArg y (emb1_1 t i)).symm

/-- The index lies in the block written back. -/
theorem mem_blk1_1 (t : Fin cfg1.N) (i : S1024x512.Idx) : i ∈ ((cfg1.win 1).blk t).view.set := by
  show i ∈ ((View.whole main_v2).slice (win1_1.rect t)).set
  rw [View.set_slice_whole, Rect.mem_set_unit]
  have h0 : (i 0 : Nat) < 1024 := (i 0).isLt
  have h1 : (i 1 : Nat) < 512 := (i 1).isLt
  have e := ext1_1 t
  intro a
  match a with
  | ⟨0, _⟩ => show win1_1.index t 0 * win1_1.size 0 ≤ (i 0 : Nat) ∧ (i 0 : Nat) < win1_1.index t 0 * win1_1.size 0 + win1_1.xsize (grid1.coords t) 0
              rw [e.1, e.2.1]; omega
  | ⟨1, _⟩ => show win1_1.index t 1 * win1_1.size 1 ≤ (i 1 : Nat) ∧ (i 1 : Nat) < win1_1.index t 1 * win1_1.size 1 + win1_1.xsize (grid1.coords t) 1
              rw [e.2.2.1, e.2.2.2]; omega

/-- What the call leaves in `main_v2`. -/
theorem final1_1 : (dat1 V c).arrAt 1 cfg1.N = outB (F := Ideal) (V c main_v1_2) :=
  (dat1 V c).arrAt_eq_of_cover 1 (outB (F := Ideal) (V c main_v1_2)) (fun t _ => flushed1_1 V c t)
    fun i => ⟨⟨0, by rw [show cfg1.N = 1 from N_1]; omega⟩, flush1_1 _, mem_blk1_1 _ i⟩

/-- Where the window's blocks lie. -/
theorem ext2_0 : ∀ t : Fin cfg2.N, win2_0.index t 0 * win2_0.size 0 = 0 ∧ win2_0.xsize (grid2.coords t) 0 = 1024
    ∧ win2_0.index t 1 * win2_0.size 1 = 0 ∧ win2_0.xsize (grid2.coords t) 1 = 512 := by decide +kernel

/-- An index of a block, in the array. -/
theorem emb2_0 (t : Fin cfg2.N) (i : S1024x512.Idx) : (win2_0.rect t).emb i = i := by
  funext a
  apply Fin.ext
  rw [Window.rect_emb_val win2_0]
  match a with
  | ⟨0, _⟩ => show win2_0.index t 0 * win2_0.size 0 + (i 0).val = (i 0).val
              rw [(ext2_0 t).1]; omega
  | ⟨1, _⟩ => show win2_0.index t 1 * win2_0.size 1 + (i 1).val = (i 1).val
              rw [(ext2_0 t).2.2.1]; omega

/-- What a step reads of the array. -/
theorem iblk2_0_eq (t : Fin cfg2.N) : iblk2 V c 0 t = V c main_v6 := by
  funext i
  unfold iblk2
  rw [View.read_apply]
  show V c main_v6 ((win2_0.rect t).emb i) = _
  exact congrArg (V c main_v6) (emb2_0 t i)

/-- Where the window's blocks lie. -/
theorem ext2_1 : ∀ t : Fin cfg2.N, win2_1.index t 0 * win2_1.size 0 = 0 ∧ win2_1.xsize (grid2.coords t) 0 = 1024
    ∧ win2_1.index t 1 * win2_1.size 1 = 0 ∧ win2_1.xsize (grid2.coords t) 1 = 512 := by decide +kernel

/-- An index of a block, in the array. -/
theorem emb2_1 (t : Fin cfg2.N) (i : S1024x512.Idx) : (win2_1.rect t).emb i = i := by
  funext a
  apply Fin.ext
  rw [Window.rect_emb_val win2_1]
  match a with
  | ⟨0, _⟩ => show win2_1.index t 0 * win2_1.size 0 + (i 0).val = (i 0).val
              rw [(ext2_1 t).1]; omega
  | ⟨1, _⟩ => show win2_1.index t 1 * win2_1.size 1 + (i 1).val = (i 1).val
              rw [(ext2_1 t).2.2.1]; omega

/-- What a step reads of the array. -/
theorem iblk2_1_eq (t : Fin cfg2.N) : iblk2 V c 1 t = V c main_v2 := by
  funext i
  unfold iblk2
  rw [View.read_apply]
  show V c main_v2 ((win2_1.rect t).emb i) = _
  exact congrArg (V c main_v2) (emb2_1 t i)

/-- Where the window's blocks lie. -/
theorem ext2_2 : ∀ t : Fin cfg2.N, win2_2.index t 0 * win2_2.size 0 = 0 ∧ win2_2.xsize (grid2.coords t) 0 = 1024
    ∧ win2_2.index t 1 * win2_2.size 1 = 0 ∧ win2_2.xsize (grid2.coords t) 1 = 512 := by decide +kernel

/-- An index of a block, in the array. -/
theorem emb2_2 (t : Fin cfg2.N) (i : S1024x512.Idx) : (win2_2.rect t).emb i = i := by
  funext a
  apply Fin.ext
  rw [Window.rect_emb_val win2_2]
  match a with
  | ⟨0, _⟩ => show win2_2.index t 0 * win2_2.size 0 + (i 0).val = (i 0).val
              rw [(ext2_2 t).1]; omega
  | ⟨1, _⟩ => show win2_2.index t 1 * win2_2.size 1 + (i 1).val = (i 1).val
              rw [(ext2_2 t).2.2.1]; omega

/-- What a step writes back. -/
theorem flushed2_2 (t : Fin cfg2.N) : (dat2 V c).flushed 2 t = (win2_2.blk t).view.read (Elt Ideal) (outD (F := Ideal) (V c main_v6) (V c main_v2)) := by
  show (cfg2.win 2).cut (grid2.coords t) ((dat2 V c).after 2 t) = _
  rw [after2_2, iblk2_0_eq, iblk2_1_eq]
  generalize (outD (F := Ideal) (V c main_v6) (V c main_v2)) = y
  funext i
  rw [View.read_apply]
  show _ = y ((win2_2.rect t).emb i)
  exact (congrArg y (emb2_2 t i)).symm

/-- The index lies in the block written back. -/
theorem mem_blk2_2 (t : Fin cfg2.N) (i : S1024x512.Idx) : i ∈ ((cfg2.win 2).blk t).view.set := by
  show i ∈ ((View.whole main_v7).slice (win2_2.rect t)).set
  rw [View.set_slice_whole, Rect.mem_set_unit]
  have h0 : (i 0 : Nat) < 1024 := (i 0).isLt
  have h1 : (i 1 : Nat) < 512 := (i 1).isLt
  have e := ext2_2 t
  intro a
  match a with
  | ⟨0, _⟩ => show win2_2.index t 0 * win2_2.size 0 ≤ (i 0 : Nat) ∧ (i 0 : Nat) < win2_2.index t 0 * win2_2.size 0 + win2_2.xsize (grid2.coords t) 0
              rw [e.1, e.2.1]; omega
  | ⟨1, _⟩ => show win2_2.index t 1 * win2_2.size 1 ≤ (i 1 : Nat) ∧ (i 1 : Nat) < win2_2.index t 1 * win2_2.size 1 + win2_2.xsize (grid2.coords t) 1
              rw [e.2.2.1, e.2.2.2]; omega

/-- What the call leaves in `main_v7`. -/
theorem final2_2 : (dat2 V c).arrAt 2 cfg2.N = outD (F := Ideal) (V c main_v6) (V c main_v2) :=
  (dat2 V c).arrAt_eq_of_cover 2 (outD (F := Ideal) (V c main_v6) (V c main_v2)) (fun t _ => flushed2_2 V c t)
    fun i => ⟨⟨0, by rw [show cfg2.N = 1 from N_2]; omega⟩, flush2_2 _, mem_blk2_2 _ i⟩

/-- Where the window's blocks lie. -/
theorem ext3_0 : ∀ t : Fin cfg3.N, win3_0.index t 0 * win3_0.size 0 = 0 ∧ win3_0.xsize (grid3.coords t) 0 = 1024
    ∧ win3_0.index t 1 * win3_0.size 1 = 0 ∧ win3_0.xsize (grid3.coords t) 1 = 512 := by decide +kernel

/-- An index of a block, in the array. -/
theorem emb3_0 (t : Fin cfg3.N) (i : S1024x512.Idx) : (win3_0.rect t).emb i = i := by
  funext a
  apply Fin.ext
  rw [Window.rect_emb_val win3_0]
  match a with
  | ⟨0, _⟩ => show win3_0.index t 0 * win3_0.size 0 + (i 0).val = (i 0).val
              rw [(ext3_0 t).1]; omega
  | ⟨1, _⟩ => show win3_0.index t 1 * win3_0.size 1 + (i 1).val = (i 1).val
              rw [(ext3_0 t).2.2.1]; omega

/-- What a step reads of the array. -/
theorem iblk3_0_eq (t : Fin cfg3.N) : iblk3 V c 0 t = V c main_v8 := by
  funext i
  unfold iblk3
  rw [View.read_apply]
  show V c main_v8 ((win3_0.rect t).emb i) = _
  exact congrArg (V c main_v8) (emb3_0 t i)

/-- Where the window's blocks lie. -/
theorem ext3_1 : ∀ t : Fin cfg3.N, win3_1.index t 0 * win3_1.size 0 = 0 ∧ win3_1.xsize (grid3.coords t) 0 = 1024
    ∧ win3_1.index t 1 * win3_1.size 1 = 0 ∧ win3_1.xsize (grid3.coords t) 1 = 512 := by decide +kernel

/-- An index of a block, in the array. -/
theorem emb3_1 (t : Fin cfg3.N) (i : S1024x512.Idx) : (win3_1.rect t).emb i = i := by
  funext a
  apply Fin.ext
  rw [Window.rect_emb_val win3_1]
  match a with
  | ⟨0, _⟩ => show win3_1.index t 0 * win3_1.size 0 + (i 0).val = (i 0).val
              rw [(ext3_1 t).1]; omega
  | ⟨1, _⟩ => show win3_1.index t 1 * win3_1.size 1 + (i 1).val = (i 1).val
              rw [(ext3_1 t).2.2.1]; omega

/-- What a step reads of the array. -/
theorem iblk3_1_eq (t : Fin cfg3.N) : iblk3 V c 1 t = V c main_v7 := by
  funext i
  unfold iblk3
  rw [View.read_apply]
  show V c main_v7 ((win3_1.rect t).emb i) = _
  exact congrArg (V c main_v7) (emb3_1 t i)

/-- Where the window's blocks lie. -/
theorem ext3_2 : ∀ t : Fin cfg3.N, win3_2.index t 0 * win3_2.size 0 = 0 ∧ win3_2.xsize (grid3.coords t) 0 = 1024
    ∧ win3_2.index t 1 * win3_2.size 1 = 0 ∧ win3_2.xsize (grid3.coords t) 1 = 32 := by decide +kernel

/-- An index of a block, in the array. -/
theorem emb3_2 (t : Fin cfg3.N) (i : S1024x32.Idx) : (win3_2.rect t).emb i = i := by
  funext a
  apply Fin.ext
  rw [Window.rect_emb_val win3_2]
  match a with
  | ⟨0, _⟩ => show win3_2.index t 0 * win3_2.size 0 + (i 0).val = (i 0).val
              rw [(ext3_2 t).1]; omega
  | ⟨1, _⟩ => show win3_2.index t 1 * win3_2.size 1 + (i 1).val = (i 1).val
              rw [(ext3_2 t).2.2.1]; omega

/-- What a step writes back. -/
theorem flushed3_2 (t : Fin cfg3.N) : (dat3 V c).flushed 2 t = (win3_2.blk t).view.read (Elt Ideal) (k3_pay9 (F := Ideal) (vals2 (F := Ideal) (V c main_v7) (V c main_v8))) := by
  show (cfg3.win 2).cut (grid3.coords t) ((dat3 V c).after 2 t) = _
  rw [after3_2, iblk3_1_eq, iblk3_0_eq]
  generalize (k3_pay9 (F := Ideal) (vals2 (F := Ideal) (V c main_v7) (V c main_v8))) = y
  funext i
  rw [View.read_apply]
  show _ = y ((win3_2.rect t).emb i)
  exact (congrArg y (emb3_2 t i)).symm

/-- The index lies in the block written back. -/
theorem mem_blk3_2 (t : Fin cfg3.N) (i : S1024x32.Idx) : i ∈ ((cfg3.win 2).blk t).view.set := by
  show i ∈ ((View.whole main_v9_0).slice (win3_2.rect t)).set
  rw [View.set_slice_whole, Rect.mem_set_unit]
  have h0 : (i 0 : Nat) < 1024 := (i 0).isLt
  have h1 : (i 1 : Nat) < 32 := (i 1).isLt
  have e := ext3_2 t
  intro a
  match a with
  | ⟨0, _⟩ => show win3_2.index t 0 * win3_2.size 0 ≤ (i 0 : Nat) ∧ (i 0 : Nat) < win3_2.index t 0 * win3_2.size 0 + win3_2.xsize (grid3.coords t) 0
              rw [e.1, e.2.1]; omega
  | ⟨1, _⟩ => show win3_2.index t 1 * win3_2.size 1 ≤ (i 1 : Nat) ∧ (i 1 : Nat) < win3_2.index t 1 * win3_2.size 1 + win3_2.xsize (grid3.coords t) 1
              rw [e.2.2.1, e.2.2.2]; omega

/-- What the call leaves in `main_v9_0`. -/
theorem final3_2 : (dat3 V c).arrAt 2 cfg3.N = k3_pay9 (F := Ideal) (vals2 (F := Ideal) (V c main_v7) (V c main_v8)) :=
  (dat3 V c).arrAt_eq_of_cover 2 (k3_pay9 (F := Ideal) (vals2 (F := Ideal) (V c main_v7) (V c main_v8))) (fun t _ => flushed3_2 V c t)
    fun i => ⟨⟨0, by rw [show cfg3.N = 1 from N_3]; omega⟩, flush3_2 _, mem_blk3_2 _ i⟩

/-- Where the window's blocks lie. -/
theorem ext3_3 : ∀ t : Fin cfg3.N, win3_3.index t 0 * win3_3.size 0 = 0 ∧ win3_3.xsize (grid3.coords t) 0 = 1024
    ∧ win3_3.index t 1 * win3_3.size 1 = 0 ∧ win3_3.xsize (grid3.coords t) 1 = 32 := by decide +kernel

/-- An index of a block, in the array. -/
theorem emb3_3 (t : Fin cfg3.N) (i : S1024x32.Idx) : (win3_3.rect t).emb i = i := by
  funext a
  apply Fin.ext
  rw [Window.rect_emb_val win3_3]
  match a with
  | ⟨0, _⟩ => show win3_3.index t 0 * win3_3.size 0 + (i 0).val = (i 0).val
              rw [(ext3_3 t).1]; omega
  | ⟨1, _⟩ => show win3_3.index t 1 * win3_3.size 1 + (i 1).val = (i 1).val
              rw [(ext3_3 t).2.2.1]; omega

/-- What a step writes back. -/
theorem flushed3_3 (t : Fin cfg3.N) : (dat3 V c).flushed 3 t = (win3_3.blk t).view.read (Elt Ideal) (sel2 (F := Ideal) (V c main_v7) (V c main_v8)) := by
  show (cfg3.win 3).cut (grid3.coords t) ((dat3 V c).after 3 t) = _
  rw [after3_3, iblk3_1_eq, iblk3_0_eq]
  generalize (sel2 (F := Ideal) (V c main_v7) (V c main_v8)) = y
  funext i
  rw [View.read_apply]
  show _ = y ((win3_3.rect t).emb i)
  exact (congrArg y (emb3_3 t i)).symm

/-- The index lies in the block written back. -/
theorem mem_blk3_3 (t : Fin cfg3.N) (i : S1024x32.Idx) : i ∈ ((cfg3.win 3).blk t).view.set := by
  show i ∈ ((View.whole main_v9_1).slice (win3_3.rect t)).set
  rw [View.set_slice_whole, Rect.mem_set_unit]
  have h0 : (i 0 : Nat) < 1024 := (i 0).isLt
  have h1 : (i 1 : Nat) < 32 := (i 1).isLt
  have e := ext3_3 t
  intro a
  match a with
  | ⟨0, _⟩ => show win3_3.index t 0 * win3_3.size 0 ≤ (i 0 : Nat) ∧ (i 0 : Nat) < win3_3.index t 0 * win3_3.size 0 + win3_3.xsize (grid3.coords t) 0
              rw [e.1, e.2.1]; omega
  | ⟨1, _⟩ => show win3_3.index t 1 * win3_3.size 1 ≤ (i 1 : Nat) ∧ (i 1 : Nat) < win3_3.index t 1 * win3_3.size 1 + win3_3.xsize (grid3.coords t) 1
              rw [e.2.2.1, e.2.2.2]; omega

/-- What the call leaves in `main_v9_1`. -/
theorem final3_3 : (dat3 V c).arrAt 3 cfg3.N = sel2 (F := Ideal) (V c main_v7) (V c main_v8) :=
  (dat3 V c).arrAt_eq_of_cover 3 (sel2 (F := Ideal) (V c main_v7) (V c main_v8)) (fun t _ => flushed3_3 V c t)
    fun i => ⟨⟨0, by rw [show cfg3.N = 1 from N_3]; omega⟩, flush3_3 _, mem_blk3_3 _ i⟩

end Cert.KernelIdeal.Run
-- ==== Proof.Value.Sims.lean ====
module

public import proofs.«01_k».proof.Proof.Region0
public import proofs.«01_k».proof.Proof.Value.Words
public import Idealize.ShloMosaic.Lib.Pointwise
public import Idealize.ShloMosaic.Lib.Pipeline.Value

/-! The first call: the similarities, the maxima of groups of sixteen columns, and the maxima of these over the blocks. -/

@[expose] public section

set_option maxRecDepth 16384

noncomputable section

namespace Cert.KernelIdeal.Run

open Idealize.ShloMosaic Idealize.ShloMosaic.TcCoe Idealize.SL.Sem Cert.KernelIdeal Cert.KernelIdeal.Gen
open Idealize.ShloMosaic.Pipeline (Dat Window)

/-- The similarities of a token array and a key array. -/
def simsOf (x : Vec Ideal S1024x128 .f32) (k : Vec Ideal S65536x128 .f32) : Vec Ideal S1024x65536 .f32 :=
  fun i => ∑ d : Fin 128, x (ix2 (i 0) d) * k (ix2 (i 1) d)

/-- A block of similarities. -/
theorem k0_pay2_apply (x : Vec Ideal S1024x128 .f32) (k : Vec Ideal S4096x128 .f32) (r : Fin 1024) (l : Fin 4096) :
    k0_pay2 (F := Ideal) x k (ix2 r l) = ∑ d : Fin 128, x (ix2 r d) * k (ix2 l d) := by
  pointwise [k0_pay2]

/-- One of sixteen holds just when one of the sixteen cases does. -/
theorem exists_sixteen (p : ℕ → Prop) : (∃ j : Fin 16, p j.val) ↔
    (((((((((((((((p 0 ∨ p 1) ∨ p 2) ∨ p 3) ∨ p 4) ∨ p 5) ∨ p 6) ∨ p 7) ∨ p 8) ∨ p 9) ∨ p 10) ∨ p 11) ∨ p 12) ∨ p 13) ∨ p 14) ∨ p 15) := by
  have step : ∀ n, (∃ j, j < n + 1 ∧ p j) ↔ (∃ j, j < n ∧ p j) ∨ p n := fun n =>
    ⟨fun ⟨j, hj, h⟩ => if e : j = n then Or.inr (e ▸ h) else Or.inl ⟨j, by omega, h⟩,
      fun h => h.elim (fun ⟨j, hj, h⟩ => ⟨j, by omega, h⟩) fun h => ⟨n, by omega, h⟩⟩
  have zero : (∃ j, j < 0 ∧ p j) ↔ False := ⟨fun ⟨_, hj, _⟩ => Nat.not_lt_zero _ hj, False.elim⟩
  have e : (∃ j : Fin 16, p j.val) ↔ ∃ j, j < 16 ∧ p j := ⟨fun ⟨j, h⟩ => ⟨j.val, j.isLt, h⟩, fun ⟨j, hj, h⟩ => ⟨⟨j, hj⟩, h⟩⟩
  rw [e, step 15, step 14, step 13, step 12, step 11, step 10, step 9, step 8, step 7, step 6, step 5, step 4, step 3, step 2, step 1, step 0,
    zero, false_or]

/-- A group maximum reaches `θ` just when one of its sixteen similarities does. -/
theorem k0_pay3_le (x : Vec Ideal S1024x128 .f32) (k : Vec Ideal S4096x128 .f32) (r : Fin 1024) (l : Fin 256) (θ : EReal) :
    θ ≤ k0_pay3 (F := Ideal) x k (ix2 r l) ↔ ∃ j : Fin 16, θ ≤ ∑ d : Fin 128, x (ix2 r d) * k (ix2 ⟨j.val * 256 + l.val, by omega⟩ d) := by
  have e := exists_sixteen fun j => ∃ h : j * 256 + l.val < 4096, θ ≤ k0_pay2 (F := Ideal) x k (ix2 r ⟨j * 256 + l.val, h⟩)
  have e' : (∃ j : Fin 16, ∃ h : j.val * 256 + l.val < 4096, θ ≤ k0_pay2 (F := Ideal) x k (ix2 r ⟨j.val * 256 + l.val, h⟩))
      ↔ ∃ j : Fin 16, θ ≤ ∑ d : Fin 128, x (ix2 r d) * k (ix2 ⟨j.val * 256 + l.val, by omega⟩ d) :=
    exists_congr fun j => ⟨fun ⟨_, h⟩ => by rwa [k0_pay2_apply] at h, fun h => ⟨by omega, by rwa [k0_pay2_apply]⟩⟩
  rw [← e', e]
  have hb : ∀ j, j < 16 → j * 256 + l.val < 4096 := fun j hj => by omega
  simp only [exists_prop_of_true (hb 0 (by omega)), exists_prop_of_true (hb 1 (by omega)), exists_prop_of_true (hb 2 (by omega)),
    exists_prop_of_true (hb 3 (by omega)), exists_prop_of_true (hb 4 (by omega)), exists_prop_of_true (hb 5 (by omega)),
    exists_prop_of_true (hb 6 (by omega)), exists_prop_of_true (hb 7 (by omega)), exists_prop_of_true (hb 8 (by omega)),
    exists_prop_of_true (hb 9 (by omega)), exists_prop_of_true (hb 10 (by omega)), exists_prop_of_true (hb 11 (by omega)),
    exists_prop_of_true (hb 12 (by omega)), exists_prop_of_true (hb 13 (by omega)), exists_prop_of_true (hb 14 (by omega)),
    exists_prop_of_true (hb 15 (by omega))]
  pointwise [k0_pay3]
  simp only [le_max_iff, Nat.zero_mul, Nat.zero_add, Nat.one_mul, Nat.reduceMul]

/-- The running maximum takes the greater of two entries. -/
theorem k0_pay1_apply (x y : Vec Ideal S1024x256 .f32) (r : Fin 1024) (l : Fin 256) :
    k0_pay1 (F := Ideal) x y (ix2 r l) = max (y (ix2 r l)) (x (ix2 r l)) := by
  pointwise [k0_pay1]

/-- The window's block numbers. -/
theorem idx0_1 : ∀ t : Fin cfg0.N, win0_1.index t 0 = t.val ∧ win0_1.index t 1 = 0 := by decide +kernel

/-- The window's block numbers. -/
theorem idx0_0 : ∀ t : Fin cfg0.N, win0_0.index t 0 = 0 ∧ win0_0.index t 1 = 0 := by decide +kernel
/-- The window's block numbers. -/
theorem idx0_2 : ∀ t : Fin cfg0.N, win0_2.index t 0 = 0 ∧ win0_2.index t 1 = t.val := by decide +kernel
/-- The window's block numbers. -/
theorem idx0_3 : ∀ t : Fin cfg0.N, win0_3.index t 0 = 0 ∧ win0_3.index t 1 = t.val := by decide +kernel
/-- The window's block numbers. -/
theorem idx0_4 : ∀ t : Fin cfg0.N, win0_4.index t 0 = 0 ∧ win0_4.index t 1 = 0 := by decide +kernel

/-- Where the window's blocks lie. -/
theorem ext0_2 : ∀ t : Fin cfg0.N, win0_2.index t 0 * win0_2.size 0 = 0 ∧ win0_2.xsize (grid0.coords t) 0 = 1024
    ∧ win0_2.index t 1 * win0_2.size 1 = t.val * 4096 ∧ win0_2.xsize (grid0.coords t) 1 = 4096 := by decide +kernel

/-- Where the window's blocks lie. -/
theorem ext0_3 : ∀ t : Fin cfg0.N, win0_3.index t 0 * win0_3.size 0 = 0 ∧ win0_3.xsize (grid0.coords t) 0 = 1024
    ∧ win0_3.index t 1 * win0_3.size 1 = t.val * 256 ∧ win0_3.xsize (grid0.coords t) 1 = 256 := by decide +kernel

/-- Where the window's blocks lie. -/
theorem ext0_4 : ∀ t : Fin cfg0.N, win0_4.index t 0 * win0_4.size 0 = 0 ∧ win0_4.xsize (grid0.coords t) 0 = 1024
    ∧ win0_4.index t 1 * win0_4.size 1 = 0 ∧ win0_4.xsize (grid0.coords t) 1 = 256 := by decide +kernel

/-- Block `b` of the keys: rows `b * 4096` to `b * 4096 + 4095`. -/
def keysOf (k : Vec Ideal S65536x128 .f32) (b : Fin 16) : Vec Ideal S4096x128 .f32 :=
  fun i => k (ix2 ⟨b.val * 4096 + (i 0).val, by have : (i 0).val < 4096 := (i 0).isLt; omega⟩ (i 1))

/-- The group maxima of all blocks, side by side. -/
def groupsOf (x : Vec Ideal S1024x128 .f32) (k : Vec Ideal S65536x128 .f32) : Vec Ideal S1024x4096 .f32 :=
  fun i => k0_pay3 (F := Ideal) x (keysOf k ⟨(i 1).val / 256, by have : (i 1).val < 4096 := (i 1).isLt; omega⟩)
    (ix2 (i 0) ⟨(i 1).val % 256, Nat.mod_lt _ (by omega)⟩)

/-- The running maxima over the blocks. -/
def runningOf (x : Vec Ideal S1024x128 .f32) (k : Vec Ideal S65536x128 .f32) : (n : ℕ) → n < 16 → Vec Ideal S1024x256 .f32
  | 0, h => k0_pay3 (F := Ideal) x (keysOf k ⟨0, h⟩)
  | n + 1, h => k0_pay1 (F := Ideal) (k0_pay3 (F := Ideal) x (keysOf k ⟨n + 1, h⟩)) (runningOf x k n (Nat.lt_of_succ_lt h))

/-- A similarity is a sum of products. -/
theorem simsOf_apply (x : Vec Ideal S1024x128 .f32) (k : Vec Ideal S65536x128 .f32) (r : Fin 1024) (g : Fin 65536) :
    simsOf x k (ix2 r g) = ∑ d : Fin 128, x (ix2 r d) * k (ix2 g d) := rfl

/-- A group maximum reaches `θ` just when a similarity of its group does. -/
theorem groupsOf_le (x : Vec Ideal S1024x128 .f32) (k : Vec Ideal S65536x128 .f32) (r : Fin 1024) (b : Fin 16) (l : Fin 256) (θ : EReal) :
    θ ≤ groupsOf x k (ix2 r ⟨b.val * 256 + l.val, by omega⟩) ↔
      ∃ j : Fin 16, θ ≤ simsOf x k (ix2 r ⟨b.val * 4096 + j.val * 256 + l.val, by omega⟩) := by
  have hb : (⟨(b.val * 256 + l.val) / 256, by omega⟩ : Fin 16) = b := Fin.ext (by show (b.val * 256 + l.val) / 256 = b.val; omega)
  have hl : (⟨(b.val * 256 + l.val) % 256, Nat.mod_lt _ (by omega)⟩ : Fin 256) = l := Fin.ext (by show (b.val * 256 + l.val) % 256 = l.val; omega)
  show θ ≤ k0_pay3 (F := Ideal) x (keysOf k ⟨(b.val * 256 + l.val) / 256, _⟩) (ix2 r ⟨(b.val * 256 + l.val) % 256, _⟩) ↔ _
  rw [hb, hl, k0_pay3_le]
  refine exists_congr fun j => ?_
  have e : (⟨b.val * 4096 + j.val * 256 + l.val, by omega⟩ : Fin 65536) = ⟨b.val * 4096 + (j.val * 256 + l.val), by omega⟩ :=
    Fin.ext (by show b.val * 4096 + j.val * 256 + l.val = b.val * 4096 + (j.val * 256 + l.val); omega)
  rw [e]
  exact Iff.rfl

/-- A running maximum reaches `θ` just when a group maximum up to its block does. -/
theorem runningOf_le (x : Vec Ideal S1024x128 .f32) (k : Vec Ideal S65536x128 .f32) (r : Fin 1024) (l : Fin 256) (θ : EReal) :
    ∀ (n : ℕ) (h : n < 16), θ ≤ runningOf x k n h (ix2 r l) ↔ ∃ b : Fin 16, b.val ≤ n ∧ θ ≤ k0_pay3 (F := Ideal) x (keysOf k b) (ix2 r l)
  | 0, h => ⟨fun e => ⟨⟨0, h⟩, Nat.le_refl _, e⟩, fun ⟨b, hb, e⟩ => by
      have : b = ⟨0, h⟩ := Fin.ext (Nat.le_zero.mp hb)
      subst this; exact e⟩
  | n + 1, h => by
      show θ ≤ k0_pay1 (F := Ideal) _ _ (ix2 r l) ↔ _
      rw [k0_pay1_apply, le_max_iff, runningOf_le x k r l θ n]
      constructor
      · rintro (⟨b, hb, e⟩ | e)
        · exact ⟨b, by omega, e⟩
        · exact ⟨⟨n + 1, h⟩, Nat.le_refl _, e⟩
      · rintro ⟨b, hb, e⟩
        by_cases hn : b.val = n + 1
        · right
          have : b = ⟨n + 1, h⟩ := Fin.ext hn
          subst this; exact e
        · exact Or.inl ⟨b, by omega, e⟩

/-- The last running maximum reaches `θ` just when a group maximum of its column does. -/
theorem running_le (x : Vec Ideal S1024x128 .f32) (k : Vec Ideal S65536x128 .f32) (r : Fin 1024) (l : Fin 256) (θ : EReal) :
    θ ≤ runningOf x k 15 (by omega) (ix2 r l) ↔ ∃ b : Fin 16, θ ≤ groupsOf x k (ix2 r ⟨b.val * 256 + l.val, by omega⟩) := by
  rw [runningOf_le]
  refine exists_congr fun b => ?_
  have hb : (⟨(b.val * 256 + l.val) / 256, by omega⟩ : Fin 16) = b := Fin.ext (by show (b.val * 256 + l.val) / 256 = b.val; omega)
  have hl : (⟨(b.val * 256 + l.val) % 256, Nat.mod_lt _ (by omega)⟩ : Fin 256) = l := Fin.ext (by show (b.val * 256 + l.val) % 256 = l.val; omega)
  show _ ↔ θ ≤ k0_pay3 (F := Ideal) x (keysOf k ⟨(b.val * 256 + l.val) / 256, _⟩) (ix2 r ⟨(b.val * 256 + l.val) % 256, _⟩)
  rw [hb, hl]
  exact ⟨fun e => e.2, fun e => ⟨by omega, e⟩⟩

variable (V : (c : Dev nD) → (b : Ref sig .tc) → Buf (Elt Ideal) ((c : Thread nD τ).loc b)) (c : Dev nD)

/-- The tokens a region enters with -/
abbrev toks : Vec Ideal S1024x128 .f32 := V c main_v0
/-- and the keys. -/
abbrev keys : Vec Ideal S65536x128 .f32 := V c main_arg1

/-- Every block step reads all the tokens -/
theorem iblk0_0_eq (t : Fin cfg0.N) : iblk0 V c 0 t = toks V c := by
  funext i
  unfold iblk0
  rw [View.read_apply]
  show V c main_v0 ((win0_0.rect t).emb i) = _
  congr 1
  funext a
  apply Fin.ext
  rw [Window.rect_emb_val win0_0]
  match a with
  | ⟨0, _⟩ =>
    show win0_0.index t 0 * 1024 + (i 0).val = (i 0).val
    rw [(idx0_0 t).1]; omega
  | ⟨1, _⟩ =>
    show win0_0.index t 1 * 128 + (i 1).val = (i 1).val
    rw [(idx0_0 t).2]; omega

/-- and its own block of keys. -/
theorem iblk0_1_eq (t : Fin cfg0.N) : iblk0 V c 1 t = keysOf (keys V c) ⟨t.val, Nat.lt_of_lt_of_eq t.isLt N_0⟩ := by
  funext i
  unfold iblk0
  rw [View.read_apply]
  show V c main_arg1 ((win0_1.rect t).emb i) = _
  unfold keysOf
  congr 1
  funext a
  apply Fin.ext
  rw [Window.rect_emb_val win0_1]
  match a with
  | ⟨0, _⟩ =>
    show win0_1.index t 0 * 4096 + (i 0).val = t.val * 4096 + (i 0).val
    rw [(idx0_1 t).1]
  | ⟨1, _⟩ =>
    show win0_1.index t 1 * 128 + (i 1).val = (i 1).val
    rw [(idx0_1 t).2]; omega

/-- What a step writes back. -/
theorem flushed0_2 (t : Fin cfg0.N) : (dat0 V c).flushed 2 t = (win0_2.blk t).view.read (Elt Ideal) (simsOf (toks V c) (keys V c)) := by
  show (cfg0.win 2).cut (grid0.coords t) ((dat0 V c).after 2 t) = _
  rw [after0_2, iblk0_0_eq, iblk0_1_eq]
  have ht : t.val < 16 := Nat.lt_of_lt_of_eq t.isLt N_0
  funext i
  rw [View.read_apply]
  have hi0 : (i 0).val < 1024 := (i 0).isLt
  have hi1 : (i 1).val < 4096 := (i 1).isLt
  have e : (win0_2.rect t).emb i = ix2 (⟨(i 0).val, hi0⟩ : Fin 1024) (⟨t.val * 4096 + (i 1).val, by omega⟩ : Fin 65536) := by
    funext a
    apply Fin.ext
    rw [Window.rect_emb_val win0_2]
    match a with
    | ⟨0, _⟩ =>
      show win0_2.index t 0 * 1024 + (i 0).val = (i 0).val
      rw [(idx0_2 t).1]; omega
    | ⟨1, _⟩ =>
      show win0_2.index t 1 * 4096 + (i 1).val = t.val * 4096 + (i 1).val
      rw [(idx0_2 t).2]
  show _ = simsOf (toks V c) (keys V c) ((win0_2.rect t).emb i)
  rw [e, simsOf_apply]
  have ei : (i : S1024x4096.Idx) = ix2 (⟨(i 0).val, hi0⟩ : Fin 1024) (⟨(i 1).val, hi1⟩ : Fin 4096) := funext fun a => match a with
    | ⟨0, _⟩ => rfl
    | ⟨1, _⟩ => rfl
  refine (congrArg (k0_pay2 (F := Ideal) (toks V c) (keysOf (keys V c) ⟨t.val, ht⟩)) ei).trans ?_
  rw [k0_pay2_apply]
  rfl

/-- The index lies in the block written back. -/
theorem mem_blk0_2 (t : Fin cfg0.N) (i : S1024x65536.Idx) :
    i ∈ ((cfg0.win 2).blk t).view.set ↔ t.val * 4096 ≤ (i 1 : Nat) ∧ (i 1 : Nat) < t.val * 4096 + 4096 := by
  show i ∈ ((View.whole main_v1_0).slice (win0_2.rect t)).set ↔ _
  rw [View.set_slice_whole, Rect.mem_set_unit]
  have h0 : (i 0 : Nat) < 1024 := (i 0).isLt
  have e := ext0_2 t
  refine ⟨fun h => ?_, fun h a => ?_⟩
  · have : win0_2.index t 1 * win0_2.size 1 ≤ (i 1 : Nat) ∧ (i 1 : Nat) < win0_2.index t 1 * win0_2.size 1 + win0_2.xsize (grid0.coords t) 1 := h 1
    rw [e.2.2.1, e.2.2.2] at this; exact this
  · match a with
    | ⟨0, _⟩ => show win0_2.index t 0 * win0_2.size 0 ≤ (i 0 : Nat) ∧ (i 0 : Nat) < win0_2.index t 0 * win0_2.size 0 + win0_2.xsize (grid0.coords t) 0
                rw [e.1, e.2.1]; omega
    | ⟨1, _⟩ => show win0_2.index t 1 * win0_2.size 1 ≤ (i 1 : Nat) ∧ (i 1 : Nat) < win0_2.index t 1 * win0_2.size 1 + win0_2.xsize (grid0.coords t) 1
                rw [e.2.2.1, e.2.2.2]; exact h

/-- After the region the first result holds the similarities, -/
theorem final0_2 : (dat0 V c).arrAt 2 cfg0.N = simsOf (toks V c) (keys V c) :=
  (dat0 V c).arrAt_eq_of_cover 2 (simsOf (toks V c) (keys V c)) (fun t _ => flushed0_2 V c t) fun i => by
    have h1 : (i 1 : Nat) < 65536 := (i 1).isLt
    have hN : cfg0.N = 16 := N_0
    exact ⟨⟨(i 1 : Nat) / 4096, by omega⟩, flush0_2 _, by
      rw [mem_blk0_2]
      show (i 1 : Nat) / 4096 * 4096 ≤ (i 1 : Nat) ∧ (i 1 : Nat) < (i 1 : Nat) / 4096 * 4096 + 4096
      omega⟩

/-- What a step writes back. -/
theorem flushed0_3 (t : Fin cfg0.N) : (dat0 V c).flushed 3 t = (win0_3.blk t).view.read (Elt Ideal) (groupsOf (toks V c) (keys V c)) := by
  show (cfg0.win 3).cut (grid0.coords t) ((dat0 V c).after 3 t) = _
  rw [after0_3]
  unfold m16At
  rw [iblk0_0_eq, iblk0_1_eq]
  have ht : t.val < 16 := Nat.lt_of_lt_of_eq t.isLt N_0
  funext i
  rw [View.read_apply]
  have hi0 : (i 0).val < 1024 := (i 0).isLt
  have hi1 : (i 1).val < 256 := (i 1).isLt
  have e : (win0_3.rect t).emb i = ix2 (⟨(i 0).val, hi0⟩ : Fin 1024) (⟨t.val * 256 + (i 1).val, by omega⟩ : Fin 4096) := by
    funext a
    apply Fin.ext
    rw [Window.rect_emb_val win0_3]
    match a with
    | ⟨0, _⟩ =>
      show win0_3.index t 0 * 1024 + (i 0).val = (i 0).val
      rw [(idx0_3 t).1]; omega
    | ⟨1, _⟩ =>
      show win0_3.index t 1 * 256 + (i 1).val = t.val * 256 + (i 1).val
      rw [(idx0_3 t).2]
  show _ = groupsOf (toks V c) (keys V c) ((win0_3.rect t).emb i)
  rw [e]
  have hb : (⟨(t.val * 256 + (i 1).val) / 256, by omega⟩ : Fin 16) = ⟨t.val, ht⟩ := Fin.ext (by show (t.val * 256 + (i 1).val) / 256 = t.val; omega)
  have hl : (⟨(t.val * 256 + (i 1).val) % 256, Nat.mod_lt _ (by omega)⟩ : Fin 256) = ⟨(i 1).val, hi1⟩ :=
    Fin.ext (by show (t.val * 256 + (i 1).val) % 256 = (i 1).val; omega)
  show _ = k0_pay3 (F := Ideal) (toks V c) (keysOf (keys V c) ⟨(t.val * 256 + (i 1).val) / 256, _⟩) (ix2 ⟨(i 0).val, hi0⟩ ⟨(t.val * 256 + (i 1).val) % 256, _⟩)
  rw [hb, hl]
  show k0_pay3 (F := Ideal) (toks V c) (keysOf (keys V c) ⟨t.val, ht⟩) i = _
  congr 1
  funext a
  match a with
  | ⟨0, _⟩ => rfl
  | ⟨1, _⟩ => rfl

/-- The index lies in the block written back. -/
theorem mem_blk0_3 (t : Fin cfg0.N) (i : S1024x4096.Idx) :
    i ∈ ((cfg0.win 3).blk t).view.set ↔ t.val * 256 ≤ (i 1 : Nat) ∧ (i 1 : Nat) < t.val * 256 + 256 := by
  show i ∈ ((View.whole main_v1_1).slice (win0_3.rect t)).set ↔ _
  rw [View.set_slice_whole, Rect.mem_set_unit]
  have h0 : (i 0 : Nat) < 1024 := (i 0).isLt
  have e := ext0_3 t
  refine ⟨fun h => ?_, fun h a => ?_⟩
  · have : win0_3.index t 1 * win0_3.size 1 ≤ (i 1 : Nat) ∧ (i 1 : Nat) < win0_3.index t 1 * win0_3.size 1 + win0_3.xsize (grid0.coords t) 1 := h 1
    rw [e.2.2.1, e.2.2.2] at this; exact this
  · match a with
    | ⟨0, _⟩ => show win0_3.index t 0 * win0_3.size 0 ≤ (i 0 : Nat) ∧ (i 0 : Nat) < win0_3.index t 0 * win0_3.size 0 + win0_3.xsize (grid0.coords t) 0
                rw [e.1, e.2.1]; omega
    | ⟨1, _⟩ => show win0_3.index t 1 * win0_3.size 1 ≤ (i 1 : Nat) ∧ (i 1 : Nat) < win0_3.index t 1 * win0_3.size 1 + win0_3.xsize (grid0.coords t) 1
                rw [e.2.2.1, e.2.2.2]; exact h

/-- the second the group maxima, -/
theorem final0_3 : (dat0 V c).arrAt 3 cfg0.N = groupsOf (toks V c) (keys V c) :=
  (dat0 V c).arrAt_eq_of_cover 3 (groupsOf (toks V c) (keys V c)) (fun t _ => flushed0_3 V c t) fun i => by
    have h1 : (i 1 : Nat) < 4096 := (i 1).isLt
    have hN : cfg0.N = 16 := N_0
    exact ⟨⟨(i 1 : Nat) / 256, by omega⟩, flush0_3 _, by
      rw [mem_blk0_3]
      show (i 1 : Nat) / 256 * 256 ≤ (i 1 : Nat) ∧ (i 1 : Nat) < (i 1 : Nat) / 256 * 256 + 256
      omega⟩

/-- The running maxima after each block step. -/
theorem acc0_eq : ∀ (n : ℕ) (h : n < cfg0.N), acc0 V c n h = runningOf (toks V c) (keys V c) n (Nat.lt_of_lt_of_eq h N_0)
  | 0, h => by
    unfold acc0 runningOf m16At
    rw [iblk0_0_eq, iblk0_1_eq]
  | n + 1, h => by
    unfold acc0 runningOf m16At
    rw [iblk0_0_eq, iblk0_1_eq, acc0_eq n]

/-- What a step writes back. -/
theorem flushed0_4 (t : Fin cfg0.N) (ht : t.val = 15) :
    (dat0 V c).flushed 4 t = (win0_4.blk t).view.read (Elt Ideal) (runningOf (toks V c) (keys V c) 15 (by omega)) := by
  show (cfg0.win 4).cut (grid0.coords t) ((dat0 V c).after 4 t) = _
  rw [after0_4, acc0_eq]
  have e15 : ∀ (n : ℕ) (h : n < 16), n = 15 → runningOf (toks V c) (keys V c) n h = runningOf (toks V c) (keys V c) 15 (by omega) := by
    intro n h e; subst e; rfl
  rw [e15 _ _ ht]
  funext i
  rw [View.read_apply]
  have e : (win0_4.rect t).emb i = i := by
    funext a
    apply Fin.ext
    rw [Window.rect_emb_val win0_4]
    match a with
    | ⟨0, _⟩ =>
      show win0_4.index t 0 * 1024 + (i 0).val = (i 0).val
      rw [(idx0_4 t).1]; omega
    | ⟨1, _⟩ =>
      show win0_4.index t 1 * 256 + (i 1).val = (i 1).val
      rw [(idx0_4 t).2]; omega
  show _ = runningOf (toks V c) (keys V c) 15 _ ((win0_4.rect t).emb i)
  rw [e]

/-- The index lies in the block written back. -/
theorem mem_blk0_4 (t : Fin cfg0.N) (i : S1024x256.Idx) : i ∈ ((cfg0.win 4).blk t).view.set := by
  show i ∈ ((View.whole main_v1_2).slice (win0_4.rect t)).set
  rw [View.set_slice_whole, Rect.mem_set_unit]
  have h0 : (i 0 : Nat) < 1024 := (i 0).isLt
  have h1 : (i 1 : Nat) < 256 := (i 1).isLt
  have e := ext0_4 t
  intro a
  match a with
  | ⟨0, _⟩ => show win0_4.index t 0 * win0_4.size 0 ≤ (i 0 : Nat) ∧ (i 0 : Nat) < win0_4.index t 0 * win0_4.size 0 + win0_4.xsize (grid0.coords t) 0
              rw [e.1, e.2.1]; omega
  | ⟨1, _⟩ => show win0_4.index t 1 * win0_4.size 1 ≤ (i 1 : Nat) ∧ (i 1 : Nat) < win0_4.index t 1 * win0_4.size 1 + win0_4.xsize (grid0.coords t) 1
              rw [e.2.2.1, e.2.2.2]; omega

/-- and the third the last running maxima. -/
theorem final0_4 : (dat0 V c).arrAt 4 cfg0.N = runningOf (toks V c) (keys V c) 15 (by omega) :=
  (dat0 V c).arrAt_eq_of_cover 4 (runningOf (toks V c) (keys V c) 15 (by omega))
    (fun t ht => flushed0_4 V c t (by have := (flush0_4 t).mp ht; have := Nat.lt_of_lt_of_eq t.isLt N_0; omega))
    fun i => ⟨⟨15, by rw [show cfg0.N = 16 from N_0]; omega⟩, (flush0_4 _).mpr rfl, mem_blk0_4 _ i⟩

end Cert.KernelIdeal.Run
-- ==== Proof.Value.Mlp.lean ====
module

public import proofs.«01_k».proof.Proof.Region4
public import proofs.«01_k».proof.Proof.Value.Row
public import Idealize.ShloMosaic.Lib.Pointwise
public import Idealize.ShloMosaic.Lib.Pipeline.Value

/-! The array the last call leaves: grid point `t` writes rows `t * 256` to `t * 256 + 255`, each the head's row of the token's
row with its recalled rows added at their weights. -/

@[expose] public section

set_option maxRecDepth 16384

noncomputable section

namespace Cert.KernelIdeal.Run

open Idealize.ShloMosaic Idealize.ShloMosaic.TcCoe Idealize.SL.Sem Cert.KernelIdeal Cert.KernelIdeal.Gen
open Idealize.ShloMosaic.Pipeline (Dat Window)

/-- The normalized rows of the last call, scaled. -/
theorem k4_pay2_apply (x0 : Vec Ideal S8192x128 .f32) (x1 : Vec Ideal S256x32 .f32) (x2 : Vec Ideal S256x128 .f32) (x3 : Vec Ideal S128x128 .f32) (x4 x5 : Vec Ideal S1x128 .f32) (r : Fin 256) (j : Fin 128) :
    k4_pay2 (F := Ideal) x0 x1 x2 x3 x4 x5 (ix2 r j)
      = Row.norm (Row.lin (Row.fused (fun d => x2 (ix2 r d)) (fun k d => x0 (ix2 (⟨r.val * 32 + k.val, by omega⟩ : Fin 8192) d)) fun k => x1 (ix2 r k))
          (fun a b => x3 (ix2 a b)) fun j => x4 (ix2 (0 : Fin 1) j)) (fun j => x5 (ix2 (0 : Fin 1) j)) j := by
  pointwise [k4_pay2]
  rfl

/-- Its shift, positive part and second linear map. -/
theorem k4_pay1_apply (y : Vec Ideal S256x128 .f32) (x6 : Vec Ideal S1x128 .f32) (x7 : Vec Ideal S128x128 .f32) (x8 : Vec Ideal S1x128 .f32) (r : Fin 256) (j : Fin 128) :
    k4_pay1 (F := Ideal) y x6 x7 x8 (ix2 r j) = Row.lin (fun x => max (y (ix2 r x) + x6 (ix2 (0 : Fin 1) x)) 0) (fun a b => x7 (ix2 a b)) (fun j => x8 (ix2 (0 : Fin 1) j)) j := by
  pointwise [k4_pay1]
  rfl

/-- A row of what the last call's body computes. -/
theorem outM_apply (x0 : Vec Ideal S8192x128 .f32) (x1 : Vec Ideal S256x32 .f32) (x2 : Vec Ideal S256x128 .f32) (x3 : Vec Ideal S128x128 .f32) (x4 x5 x6 : Vec Ideal S1x128 .f32)
    (x7 : Vec Ideal S128x128 .f32) (x8 : Vec Ideal S1x128 .f32) (r : Fin 256) (j : Fin 128) :
    outM (F := Ideal) x0 x1 x2 x3 x4 x5 x6 x7 x8 (ix2 r j)
      = Row.head (Row.fused (fun d => x2 (ix2 r d)) (fun k d => x0 (ix2 (⟨r.val * 32 + k.val, by omega⟩ : Fin 8192) d)) fun k => x1 (ix2 r k))
          (fun a b => x3 (ix2 a b)) (fun j => x4 (ix2 (0 : Fin 1) j)) (fun j => x5 (ix2 (0 : Fin 1) j)) (fun j => x6 (ix2 (0 : Fin 1) j))
          (fun a b => x7 (ix2 a b)) (fun j => x8 (ix2 (0 : Fin 1) j)) j := by
  unfold outM
  rw [k4_pay1_apply]
  simp only [k4_pay2_apply]
  rfl

variable (V : (c : Dev nD) → (b : Ref sig .tc) → Buf (Elt Ideal) ((c : Thread nD τ).loc b)) (c : Dev nD)

/-- The whole result, row by row. -/
def headOf (mem : Vec Ideal S32768x128 .f32) (w : Vec Ideal S1024x32 .f32) (tok : Vec Ideal S1024x128 .f32) (w1 : Vec Ideal S128x128 .f32) (b1 g b : Vec Ideal S1x128 .f32)
    (w2 : Vec Ideal S128x128 .f32) (b2 : Vec Ideal S1x128 .f32) : Vec Ideal S1024x128 .f32 := fun i =>
  Row.head (Row.fused (fun d => tok (ix2 (i 0) d)) (fun k d => mem (ix2 (⟨(i 0).val * 32 + k.val, by have : (i 0).val < 1024 := (i 0).isLt; omega⟩ : Fin 32768) d)) fun k => w (ix2 (i 0) k))
    (fun a b => w1 (ix2 a b)) (fun j => b1 (ix2 (0 : Fin 1) j)) (fun j => g (ix2 (0 : Fin 1) j)) (fun j => b (ix2 (0 : Fin 1) j))
    (fun a b => w2 (ix2 a b)) (fun j => b2 (ix2 (0 : Fin 1) j)) (i 1)

/-- Where the window's blocks lie. -/
theorem ext4_0 : ∀ t : Fin cfg4.N, win4_0.index t 0 * win4_0.size 0 = t.val * 8192 ∧ win4_0.xsize (grid4.coords t) 0 = 8192
    ∧ win4_0.index t 1 * win4_0.size 1 = 0 ∧ win4_0.xsize (grid4.coords t) 1 = 128 := by decide +kernel

/-- An index of a block, in the array. -/
theorem emb4_0 (t : Fin cfg4.N) (r : Fin 8192) (d : Fin 128) : (win4_0.rect t).emb (ix2 r d : S8192x128.Idx)
    = ix2 (⟨t.val * 8192 + r.val, by have := Nat.lt_of_lt_of_eq t.isLt N_4; omega⟩ : Fin 32768) d := by
  funext a
  apply Fin.ext
  rw [Window.rect_emb_val win4_0]
  match a with
  | ⟨0, _⟩ => show win4_0.index t 0 * win4_0.size 0 + r.val = t.val * 8192 + r.val
              rw [(ext4_0 t).1]
  | ⟨1, _⟩ => show win4_0.index t 1 * win4_0.size 1 + d.val = d.val
              rw [(ext4_0 t).2.2.1]; omega

/-- What a step reads of the array. -/
theorem iblk4_0_apply (t : Fin cfg4.N) (r : Fin 8192) (d : Fin 128) : iblk4 V c 0 t (ix2 r d : S8192x128.Idx)
    = V c main_v11 (ix2 (⟨t.val * 8192 + r.val, by have := Nat.lt_of_lt_of_eq t.isLt N_4; omega⟩ : Fin 32768) d) := by
  unfold iblk4
  rw [View.read_apply]
  show V c main_v11 ((win4_0.rect t).emb (ix2 r d)) = _
  exact congrArg (V c main_v11) (emb4_0 t r d)

/-- Where the window's blocks lie. -/
theorem ext4_1 : ∀ t : Fin cfg4.N, win4_1.index t 0 * win4_1.size 0 = t.val * 256 ∧ win4_1.xsize (grid4.coords t) 0 = 256
    ∧ win4_1.index t 1 * win4_1.size 1 = 0 ∧ win4_1.xsize (grid4.coords t) 1 = 32 := by decide +kernel

/-- An index of a block, in the array. -/
theorem emb4_1 (t : Fin cfg4.N) (r : Fin 256) (d : Fin 32) : (win4_1.rect t).emb (ix2 r d : S256x32.Idx)
    = ix2 (⟨t.val * 256 + r.val, by have := Nat.lt_of_lt_of_eq t.isLt N_4; omega⟩ : Fin 1024) d := by
  funext a
  apply Fin.ext
  rw [Window.rect_emb_val win4_1]
  match a with
  | ⟨0, _⟩ => show win4_1.index t 0 * win4_1.size 0 + r.val = t.val * 256 + r.val
              rw [(ext4_1 t).1]
  | ⟨1, _⟩ => show win4_1.index t 1 * win4_1.size 1 + d.val = d.val
              rw [(ext4_1 t).2.2.1]; omega

/-- What a step reads of the array. -/
theorem iblk4_1_apply (t : Fin cfg4.N) (r : Fin 256) (d : Fin 32) : iblk4 V c 1 t (ix2 r d : S256x32.Idx)
    = V c main_v9_0 (ix2 (⟨t.val * 256 + r.val, by have := Nat.lt_of_lt_of_eq t.isLt N_4; omega⟩ : Fin 1024) d) := by
  unfold iblk4
  rw [View.read_apply]
  show V c main_v9_0 ((win4_1.rect t).emb (ix2 r d)) = _
  exact congrArg (V c main_v9_0) (emb4_1 t r d)

/-- Where the window's blocks lie. -/
theorem ext4_2 : ∀ t : Fin cfg4.N, win4_2.index t 0 * win4_2.size 0 = t.val * 256 ∧ win4_2.xsize (grid4.coords t) 0 = 256
    ∧ win4_2.index t 1 * win4_2.size 1 = 0 ∧ win4_2.xsize (grid4.coords t) 1 = 128 := by decide +kernel

/-- An index of a block, in the array. -/
theorem emb4_2 (t : Fin cfg4.N) (r : Fin 256) (d : Fin 128) : (win4_2.rect t).emb (ix2 r d : S256x128.Idx)
    = ix2 (⟨t.val * 256 + r.val, by have := Nat.lt_of_lt_of_eq t.isLt N_4; omega⟩ : Fin 1024) d := by
  funext a
  apply Fin.ext
  rw [Window.rect_emb_val win4_2]
  match a with
  | ⟨0, _⟩ => show win4_2.index t 0 * win4_2.size 0 + r.val = t.val * 256 + r.val
              rw [(ext4_2 t).1]
  | ⟨1, _⟩ => show win4_2.index t 1 * win4_2.size 1 + d.val = d.val
              rw [(ext4_2 t).2.2.1]; omega

/-- What a step reads of the array. -/
theorem iblk4_2_apply (t : Fin cfg4.N) (r : Fin 256) (d : Fin 128) : iblk4 V c 2 t (ix2 r d : S256x128.Idx)
    = V c main_v0 (ix2 (⟨t.val * 256 + r.val, by have := Nat.lt_of_lt_of_eq t.isLt N_4; omega⟩ : Fin 1024) d) := by
  unfold iblk4
  rw [View.read_apply]
  show V c main_v0 ((win4_2.rect t).emb (ix2 r d)) = _
  exact congrArg (V c main_v0) (emb4_2 t r d)

/-- Where the window's blocks lie. -/
theorem ext4_3 : ∀ t : Fin cfg4.N, win4_3.index t 0 * win4_3.size 0 = 0 ∧ win4_3.xsize (grid4.coords t) 0 = 128
    ∧ win4_3.index t 1 * win4_3.size 1 = 0 ∧ win4_3.xsize (grid4.coords t) 1 = 128 := by decide +kernel

/-- An index of a block, in the array. -/
theorem emb4_3 (t : Fin cfg4.N) (i : S128x128.Idx) : (win4_3.rect t).emb i = i := by
  funext a
  apply Fin.ext
  rw [Window.rect_emb_val win4_3]
  match a with
  | ⟨0, _⟩ => show win4_3.index t 0 * win4_3.size 0 + (i 0).val = (i 0).val
              rw [(ext4_3 t).1]; omega
  | ⟨1, _⟩ => show win4_3.index t 1 * win4_3.size 1 + (i 1).val = (i 1).val
              rw [(ext4_3 t).2.2.1]; omega

/-- What a step reads of the array. -/
theorem iblk4_3_eq (t : Fin cfg4.N) : iblk4 V c 3 t = V c main_arg3 := by
  funext i
  unfold iblk4
  rw [View.read_apply]
  show V c main_arg3 ((win4_3.rect t).emb i) = _
  exact congrArg (V c main_arg3) (emb4_3 t i)

/-- Where the window's blocks lie. -/
theorem ext4_4 : ∀ t : Fin cfg4.N, win4_4.index t 0 * win4_4.size 0 = 0 ∧ win4_4.xsize (grid4.coords t) 0 = 1
    ∧ win4_4.index t 1 * win4_4.size 1 = 0 ∧ win4_4.xsize (grid4.coords t) 1 = 128 := by decide +kernel

/-- An index of a block, in the array. -/
theorem emb4_4 (t : Fin cfg4.N) (i : S1x128.Idx) : (win4_4.rect t).emb i = i := by
  funext a
  apply Fin.ext
  rw [Window.rect_emb_val win4_4]
  match a with
  | ⟨0, _⟩ => show win4_4.index t 0 * win4_4.size 0 + (i 0).val = (i 0).val
              rw [(ext4_4 t).1]; omega
  | ⟨1, _⟩ => show win4_4.index t 1 * win4_4.size 1 + (i 1).val = (i 1).val
              rw [(ext4_4 t).2.2.1]; omega

/-- What a step reads of the array. -/
theorem iblk4_4_eq (t : Fin cfg4.N) : iblk4 V c 4 t = V c main_v12 := by
  funext i
  unfold iblk4
  rw [View.read_apply]
  show V c main_v12 ((win4_4.rect t).emb i) = _
  exact congrArg (V c main_v12) (emb4_4 t i)

/-- Where the window's blocks lie. -/
theorem ext4_5 : ∀ t : Fin cfg4.N, win4_5.index t 0 * win4_5.size 0 = 0 ∧ win4_5.xsize (grid4.coords t) 0 = 1
    ∧ win4_5.index t 1 * win4_5.size 1 = 0 ∧ win4_5.xsize (grid4.coords t) 1 = 128 := by decide +kernel

/-- An index of a block, in the array. -/
theorem emb4_5 (t : Fin cfg4.N) (i : S1x128.Idx) : (win4_5.rect t).emb i = i := by
  funext a
  apply Fin.ext
  rw [Window.rect_emb_val win4_5]
  match a with
  | ⟨0, _⟩ => show win4_5.index t 0 * win4_5.size 0 + (i 0).val = (i 0).val
              rw [(ext4_5 t).1]; omega
  | ⟨1, _⟩ => show win4_5.index t 1 * win4_5.size 1 + (i 1).val = (i 1).val
              rw [(ext4_5 t).2.2.1]; omega

/-- What a step reads of the array. -/
theorem iblk4_5_eq (t : Fin cfg4.N) : iblk4 V c 5 t = V c main_v13 := by
  funext i
  unfold iblk4
  rw [View.read_apply]
  show V c main_v13 ((win4_5.rect t).emb i) = _
  exact congrArg (V c main_v13) (emb4_5 t i)

/-- Where the window's blocks lie. -/
theorem ext4_6 : ∀ t : Fin cfg4.N, win4_6.index t 0 * win4_6.size 0 = 0 ∧ win4_6.xsize (grid4.coords t) 0 = 1
    ∧ win4_6.index t 1 * win4_6.size 1 = 0 ∧ win4_6.xsize (grid4.coords t) 1 = 128 := by decide +kernel

/-- An index of a block, in the array. -/
theorem emb4_6 (t : Fin cfg4.N) (i : S1x128.Idx) : (win4_6.rect t).emb i = i := by
  funext a
  apply Fin.ext
  rw [Window.rect_emb_val win4_6]
  match a with
  | ⟨0, _⟩ => show win4_6.index t 0 * win4_6.size 0 + (i 0).val = (i 0).val
              rw [(ext4_6 t).1]; omega
  | ⟨1, _⟩ => show win4_6.index t 1 * win4_6.size 1 + (i 1).val = (i 1).val
              rw [(ext4_6 t).2.2.1]; omega

/-- What a step reads of the array. -/
theorem iblk4_6_eq (t : Fin cfg4.N) : iblk4 V c 6 t = V c main_v14 := by
  funext i
  unfold iblk4
  rw [View.read_apply]
  show V c main_v14 ((win4_6.rect t).emb i) = _
  exact congrArg (V c main_v14) (emb4_6 t i)

/-- Where the window's blocks lie. -/
theorem ext4_7 : ∀ t : Fin cfg4.N, win4_7.index t 0 * win4_7.size 0 = 0 ∧ win4_7.xsize (grid4.coords t) 0 = 128
    ∧ win4_7.index t 1 * win4_7.size 1 = 0 ∧ win4_7.xsize (grid4.coords t) 1 = 128 := by decide +kernel

/-- An index of a block, in the array. -/
theorem emb4_7 (t : Fin cfg4.N) (i : S128x128.Idx) : (win4_7.rect t).emb i = i := by
  funext a
  apply Fin.ext
  rw [Window.rect_emb_val win4_7]
  match a with
  | ⟨0, _⟩ => show win4_7.index t 0 * win4_7.size 0 + (i 0).val = (i 0).val
              rw [(ext4_7 t).1]; omega
  | ⟨1, _⟩ => show win4_7.index t 1 * win4_7.size 1 + (i 1).val = (i 1).val
              rw [(ext4_7 t).2.2.1]; omega

/-- What a step reads of the array. -/
theorem iblk4_7_eq (t : Fin cfg4.N) : iblk4 V c 7 t = V c main_arg7 := by
  funext i
  unfold iblk4
  rw [View.read_apply]
  show V c main_arg7 ((win4_7.rect t).emb i) = _
  exact congrArg (V c main_arg7) (emb4_7 t i)

/-- Where the window's blocks lie. -/
theorem ext4_8 : ∀ t : Fin cfg4.N, win4_8.index t 0 * win4_8.size 0 = 0 ∧ win4_8.xsize (grid4.coords t) 0 = 1
    ∧ win4_8.index t 1 * win4_8.size 1 = 0 ∧ win4_8.xsize (grid4.coords t) 1 = 128 := by decide +kernel

/-- An index of a block, in the array. -/
theorem emb4_8 (t : Fin cfg4.N) (i : S1x128.Idx) : (win4_8.rect t).emb i = i := by
  funext a
  apply Fin.ext
  rw [Window.rect_emb_val win4_8]
  match a with
  | ⟨0, _⟩ => show win4_8.index t 0 * win4_8.size 0 + (i 0).val = (i 0).val
              rw [(ext4_8 t).1]; omega
  | ⟨1, _⟩ => show win4_8.index t 1 * win4_8.size 1 + (i 1).val = (i 1).val
              rw [(ext4_8 t).2.2.1]; omega

/-- What a step reads of the array. -/
theorem iblk4_8_eq (t : Fin cfg4.N) : iblk4 V c 8 t = V c main_v15 := by
  funext i
  unfold iblk4
  rw [View.read_apply]
  show V c main_v15 ((win4_8.rect t).emb i) = _
  exact congrArg (V c main_v15) (emb4_8 t i)

/-- Where the window's blocks lie. -/
theorem ext4_9 : ∀ t : Fin cfg4.N, win4_9.index t 0 * win4_9.size 0 = t.val * 256 ∧ win4_9.xsize (grid4.coords t) 0 = 256
    ∧ win4_9.index t 1 * win4_9.size 1 = 0 ∧ win4_9.xsize (grid4.coords t) 1 = 128 := by decide +kernel

/-- An index of a block, in the array. -/
theorem emb4_9 (t : Fin cfg4.N) (r : Fin 256) (d : Fin 128) : (win4_9.rect t).emb (ix2 r d : S256x128.Idx)
    = ix2 (⟨t.val * 256 + r.val, by have := Nat.lt_of_lt_of_eq t.isLt N_4; omega⟩ : Fin 1024) d := by
  funext a
  apply Fin.ext
  rw [Window.rect_emb_val win4_9]
  match a with
  | ⟨0, _⟩ => show win4_9.index t 0 * win4_9.size 0 + r.val = t.val * 256 + r.val
              rw [(ext4_9 t).1]
  | ⟨1, _⟩ => show win4_9.index t 1 * win4_9.size 1 + d.val = d.val
              rw [(ext4_9 t).2.2.1]; omega

/-- What a step writes back. -/
theorem flushed4_9 (t : Fin cfg4.N) : (dat4 V c).flushed 9 t = (win4_9.blk t).view.read (Elt Ideal) (headOf (V c main_v11) (V c main_v9_0) (V c main_v0) (V c main_arg3) (V c main_v12) (V c main_v13) (V c main_v14) (V c main_arg7) (V c main_v15)) := by
  show (cfg4.win 9).cut (grid4.coords t) ((dat4 V c).after 9 t) = _
  rw [after4_9]
  unfold outMAt
  rw [iblk4_3_eq, iblk4_4_eq, iblk4_5_eq, iblk4_6_eq, iblk4_7_eq, iblk4_8_eq]
  have ht : t.val < 4 := Nat.lt_of_lt_of_eq t.isLt N_4
  funext i
  rw [View.read_apply]
  have hi0 : (i 0).val < 256 := (i 0).isLt
  have hi1 : (i 1).val < 128 := (i 1).isLt
  have ei : (i : S256x128.Idx) = ix2 (⟨(i 0).val, hi0⟩ : Fin 256) (⟨(i 1).val, hi1⟩ : Fin 128) := funext fun a => match a with
    | ⟨0, _⟩ => rfl
    | ⟨1, _⟩ => rfl
  refine (congrArg (outM (F := Ideal) (iblk4 V c 0 t) (iblk4 V c 1 t) (iblk4 V c 2 t) (V c main_arg3) (V c main_v12) (V c main_v13) (V c main_v14) (V c main_arg7) (V c main_v15)) ei).trans ?_
  show _ = (headOf (V c main_v11) (V c main_v9_0) (V c main_v0) (V c main_arg3) (V c main_v12) (V c main_v13) (V c main_v14) (V c main_arg7) (V c main_v15)) ((win4_9.rect t).emb i)
  refine Eq.trans ?_ (congrArg (headOf (V c main_v11) (V c main_v9_0) (V c main_v0) (V c main_arg3) (V c main_v12) (V c main_v13) (V c main_v14) (V c main_arg7) (V c main_v15)) ((congrArg (win4_9.rect t).emb ei).trans (emb4_9 t ⟨(i 0).val, hi0⟩ ⟨(i 1).val, hi1⟩))).symm
  rw [outM_apply]
  unfold headOf
  simp only [iblk4_0_apply, iblk4_1_apply, iblk4_2_apply]
  have e : ∀ k : Fin 32, (⟨t.val * 8192 + ((i 0).val * 32 + k.val), by omega⟩ : Fin 32768) = ⟨(t.val * 256 + (i 0).val) * 32 + k.val, by omega⟩ :=
    fun k => Fin.ext (by show t.val * 8192 + ((i 0).val * 32 + k.val) = (t.val * 256 + (i 0).val) * 32 + k.val; omega)
  simp only [e]
  rfl

/-- The index lies in the block written back. -/
theorem mem_blk4_9 (t : Fin cfg4.N) (i : S1024x128.Idx) : i ∈ ((cfg4.win 9).blk t).view.set ↔ t.val * 256 ≤ (i 0 : Nat) ∧ (i 0 : Nat) < t.val * 256 + 256 := by
  show i ∈ ((View.whole main_v16).slice (win4_9.rect t)).set ↔ _
  rw [View.set_slice_whole, Rect.mem_set_unit]
  have h1 : (i 1 : Nat) < 128 := (i 1).isLt
  have e := ext4_9 t
  refine ⟨fun h => ?_, fun h a => ?_⟩
  · have : win4_9.index t 0 * win4_9.size 0 ≤ (i 0 : Nat) ∧ (i 0 : Nat) < win4_9.index t 0 * win4_9.size 0 + win4_9.xsize (grid4.coords t) 0 := h 0
    rw [e.1, e.2.1] at this; exact this
  · match a with
    | ⟨0, _⟩ => show win4_9.index t 0 * win4_9.size 0 ≤ (i 0 : Nat) ∧ (i 0 : Nat) < win4_9.index t 0 * win4_9.size 0 + win4_9.xsize (grid4.coords t) 0
                rw [e.1, e.2.1]; exact h
    | ⟨1, _⟩ => show win4_9.index t 1 * win4_9.size 1 ≤ (i 1 : Nat) ∧ (i 1 : Nat) < win4_9.index t 1 * win4_9.size 1 + win4_9.xsize (grid4.coords t) 1
                rw [e.2.2.1, e.2.2.2]; omega

/-- What the last call leaves. -/
theorem final4_9 : (dat4 V c).arrAt 9 cfg4.N = headOf (V c main_v11) (V c main_v9_0) (V c main_v0) (V c main_arg3) (V c main_v12) (V c main_v13) (V c main_v14) (V c main_arg7) (V c main_v15) :=
  (dat4 V c).arrAt_eq_of_cover 9 (headOf (V c main_v11) (V c main_v9_0) (V c main_v0) (V c main_arg3) (V c main_v12) (V c main_v13) (V c main_v14) (V c main_arg7) (V c main_v15)) (fun t _ => flushed4_9 V c t) fun i => by
    have h0 : (i 0 : Nat) < 1024 := (i 0).isLt
    have hN : cfg4.N = 4 := N_4
    exact ⟨⟨(i 0 : Nat) / 256, by omega⟩, flush4_9 _, by
      rw [mem_blk4_9]
      show (i 0 : Nat) / 256 * 256 ≤ (i 0 : Nat) ∧ (i 0 : Nat) < (i 0 : Nat) / 256 * 256 + 256
      omega⟩

end Cert.KernelIdeal.Run
-- ==== Proof.Value.Carry.lean ====
module

public import proofs.«01_k».proof.Proof.Value.Host
public import proofs.«01_k».proof.Proof.Value.Single
public import proofs.«01_k».proof.Proof.Value.Sims
public import proofs.«01_k».proof.Proof.Value.Mlp

/-! The arrays from region to region, each in terms of the arguments or of the arrays before it. -/

@[expose] public section

set_option maxRecDepth 16384

noncomputable section

namespace Cert.KernelIdeal.Run

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument array at launch. -/
abbrev arg (a : Ref sig .tc) : Buf (Elt Ideal) ((c : Thread nD τ).loc a) := m ((c : Thread nD τ).loc a)

/-- The tokens as rows. -/
def tokRows : Vec Ideal S1024x128 .f32 := shapeCast S1024x128 (arg m c main_arg0) shapeCasts_S2x512x128_S1024x128

/-- The similarities, -/
def simsArr : Vec Ideal S1024x65536 .f32 := simsOf (tokRows m c) (arg m c main_arg1)
/-- their group maxima -/
def groupsArr : Vec Ideal S1024x4096 .f32 := groupsOf (tokRows m c) (arg m c main_arg1)
/-- and the maxima of these over the blocks. -/
def runningArr : Vec Ideal S1024x256 .f32 := runningOf (tokRows m c) (arg m c main_arg1) 15 (by omega)

/-- Entering the first call: the tokens as rows, -/
theorem W1_v0 : W1 m ρ c (Proc.devRef .tc main_v0) = tokRows m c := rows_eq (W0 m ρ c)

/-- and the keys. -/
theorem W1_arg1 : W1 m ρ c (Proc.devRef .tc main_arg1) = arg m c main_arg1 := W1_args m ρ c main_arg1 (by decide)

/-- The first call leaves the similarities, -/
theorem W2_v1_0 : W2 m ρ c (Proc.devRef .tc main_v1_0) = simsArr m c := by
  refine (W2_arr m ρ c 2).trans ((final0_2 (V1 m ρ) c).trans ?_)
  show simsOf (W1 m ρ c (Proc.devRef .tc main_v0)) (W1 m ρ c (Proc.devRef .tc main_arg1)) = _
  rw [W1_v0, W1_arg1]
  rfl

/-- their group maxima -/
theorem W2_v1_1 : W2 m ρ c (Proc.devRef .tc main_v1_1) = groupsArr m c := by
  refine (W2_arr m ρ c 3).trans ((final0_3 (V1 m ρ) c).trans ?_)
  show groupsOf (W1 m ρ c (Proc.devRef .tc main_v0)) (W1 m ρ c (Proc.devRef .tc main_arg1)) = _
  rw [W1_v0, W1_arg1]
  rfl

/-- and the maxima of these over the blocks. -/
theorem W2_v1_2 : W2 m ρ c (Proc.devRef .tc main_v1_2) = runningArr m c := by
  refine (W2_arr m ρ c 4).trans ((final0_4 (V1 m ρ) c).trans ?_)
  show runningOf (W1 m ρ c (Proc.devRef .tc main_v0)) (W1 m ρ c (Proc.devRef .tc main_arg1)) 15 _ = _
  rw [W1_v0, W1_arg1]
  rfl

/-- The candidates' words. -/
def candArr : Vec Ideal S1024x512 .i32 := outB (runningArr m c)

/-- The second call leaves the candidates' words -/
theorem W3_v2 : W3 m ρ c (Proc.devRef .tc main_v2) = candArr m c := by
  refine (W3_arr m ρ c 1).trans ((final1_1 (V2 m ρ) c).trans ?_)
  show outB (W2 m ρ c (Proc.devRef .tc main_v1_2)) = _
  rw [W2_v1_2]
  rfl

/-- and the group maxima as they were. -/
theorem W3_v1_1 : W3 m ρ c (Proc.devRef .tc main_v1_1) = groupsArr m c := (W3_of_ne m ρ c main_v1_1 (by decide)).trans (W2_v1_1 m ρ c)

/-- The candidates' words reach the third call, -/
theorem W6_v2 : W6 m ρ c (Proc.devRef .tc main_v2) = candArr m c :=
  (W6_of m ρ c main_v2 (by decide)).trans ((W5_of m ρ c main_v2 (by decide)).trans ((W4_of m ρ c main_v2 (by decide)).trans (W3_v2 m ρ c)))

/-- The candidates' group maxima. -/
def takenArr : Vec Ideal S1024x512 .f32 :=
  shapeCast S1024x512 (Host.gather gather_S4194304_S524288x1_S524288_n_0_n_n_0_1_1 (shapeCast S4194304 (groupsArr m c) shapeCasts_S1024x4096_S4194304)
    (broadcastInDim S524288x1 ![0] bcast_S524288_S524288x1_0 (shapeCast S524288 (candArr m c) shapeCasts_S1024x512_S524288))) shapeCasts_S524288_S1024x512

/-- with their group maxima. -/
theorem W6_v6 : W6 m ρ c (Proc.devRef .tc main_v6) = takenArr m c := by
  refine (unflat_eq (W5 m ρ c)).trans ?_
  have h5 : W5 m ρ c (Proc.devRef .tc main_v5) = _ := taken_eq (W4 m ρ c)
  have h3 : W4 m ρ c (Proc.devRef .tc main_v3) = _ := flat_eq (W3 m ρ c)
  have h4 : W4 m ρ c (Proc.devRef .tc main_v4) = _ := cand_eq (W3 m ρ c)
  rw [h5, h3, h4, W3_v1_1, W3_v2]
  rfl

/-- The second candidates' words. -/
def colArr : Vec Ideal S1024x512 .i32 := outD (takenArr m c) (candArr m c)

/-- The third call leaves the second candidates' words -/
theorem W7_v7 : W7 m ρ c (Proc.devRef .tc main_v7) = colArr m c := by
  refine (W7_arr m ρ c 2).trans ((final2_2 (V6 m ρ) c).trans ?_)
  show outD (W6 m ρ c (Proc.devRef .tc main_v6)) (W6 m ρ c (Proc.devRef .tc main_v2)) = _
  rw [W6_v6, W6_v2]
  rfl

/-- and the similarities as they were. -/
theorem W7_v1_0 : W7 m ρ c (Proc.devRef .tc main_v1_0) = simsArr m c :=
  (W7_of_ne m ρ c main_v1_0 (by decide)).trans ((W6_of m ρ c main_v1_0 (by decide)).trans ((W5_of m ρ c main_v1_0 (by decide)).trans
    ((W4_of m ρ c main_v1_0 (by decide)).trans ((W3_of_ne m ρ c main_v1_0 (by decide)).trans (W2_v1_0 m ρ c)))))

/-- The second candidates' similarities. -/
def alongArr : Vec Ideal S1024x512 .f32 :=
  Host.gather gather_S1024x65536_S1024x512x1_S1024x512_n_1_0_0_1_2_11 (simsArr m c)
    (shapeCast S1024x512x1 (select (cmpi .slt (colArr m c) (broadcastInDim S1024x512 ![] bcast_S_S1024x512 (constantI S_ 32 0#32)))
      (addi (colArr m c) (broadcastInDim S1024x512 ![] bcast_S_S1024x512 (constantI S_ 32 65536#32))) (colArr m c)) shapeCasts_S1024x512_S1024x512x1)

/-- The fourth call enters with the second candidates' similarities -/
theorem W8_v8 : W8 m ρ c (Proc.devRef .tc main_v8) = alongArr m c := by
  refine (along_eq (W7 m ρ c)).trans ?_
  rw [W7_v7, W7_v1_0]
  rfl

/-- and words. -/
theorem W8_v7 : W8 m ρ c (Proc.devRef .tc main_v7) = colArr m c := (W8_of m ρ c main_v7 (by decide)).trans (W7_v7 m ρ c)

/-- The selected columns' words -/
def selArr : Vec Ideal S1024x32 .i32 := sel2 (colArr m c) (alongArr m c)
/-- and similarities. -/
def valArr : Vec Ideal S1024x32 .f32 := vals2 (colArr m c) (alongArr m c)

/-- The fourth call leaves the weights -/
theorem W9_v9_0 : W9 m ρ c (Proc.devRef .tc main_v9_0) = k3_pay9 (F := Ideal) (valArr m c) := by
  refine (W9_arr m ρ c 2).trans ((final3_2 (V8 m ρ) c).trans ?_)
  show k3_pay9 (F := Ideal) (vals2 (W8 m ρ c (Proc.devRef .tc main_v7)) (W8 m ρ c (Proc.devRef .tc main_v8))) = _
  rw [W8_v7, W8_v8]
  rfl

/-- and the selected columns' words. -/
theorem W9_v9_1 : W9 m ρ c (Proc.devRef .tc main_v9_1) = selArr m c := by
  refine (W9_arr m ρ c 3).trans ((final3_3 (V8 m ρ) c).trans ?_)
  show sel2 (W8 m ρ c (Proc.devRef .tc main_v7)) (W8 m ρ c (Proc.devRef .tc main_v8)) = _
  rw [W8_v7, W8_v8]
  rfl

/-- The recalled rows. -/
def memArr : Vec Ideal S32768x128 .f32 :=
  Host.gather gather_S65536x128_S32768x1_S32768x128_1_0_n_n_0_1_1128 (arg m c main_arg2)
    (broadcastInDim S32768x1 ![0] bcast_S32768_S32768x1_0 (shapeCast S32768 (selArr m c) shapeCasts_S1024x32_S32768))

/-- The last call enters with the recalled rows, -/
theorem W12_v11 : W12 m ρ c (Proc.devRef .tc main_v11) = memArr m c := by
  refine (W12_of m ρ c main_v11 (by decide)).trans ((mem_eq (W10 m ρ c)).trans ?_)
  have h10 : W10 m ρ c (Proc.devRef .tc main_v10) = _ := sel_eq (W9 m ρ c)
  rw [h10, W9_v9_1, W10_args m ρ c main_arg2 (by decide)]
  rfl

/-- the weights, -/
theorem W12_v9_0 : W12 m ρ c (Proc.devRef .tc main_v9_0) = k3_pay9 (F := Ideal) (valArr m c) :=
  (W12_of m ρ c main_v9_0 (by decide)).trans ((W11_of m ρ c main_v9_0 (by decide)).trans ((W10_of m ρ c main_v9_0 (by decide)).trans (W9_v9_0 m ρ c)))

/-- the tokens, -/
theorem W12_v0 : W12 m ρ c (Proc.devRef .tc main_v0) = tokRows m c :=
  (W12_of m ρ c main_v0 (by decide)).trans <| (W11_of m ρ c main_v0 (by decide)).trans <| (W10_of m ρ c main_v0 (by decide)).trans <|
  (W9_of_ne m ρ c main_v0 (by decide)).trans <| (W8_of m ρ c main_v0 (by decide)).trans <| (W7_of_ne m ρ c main_v0 (by decide)).trans <|
  (W6_of m ρ c main_v0 (by decide)).trans <| (W5_of m ρ c main_v0 (by decide)).trans <| (W4_of m ρ c main_v0 (by decide)).trans <|
  (W3_of_ne m ρ c main_v0 (by decide)).trans <| (W2_of m ρ c main_v0 (by decide)).trans (W1_v0 m ρ c)

/-- the first bias, -/
theorem W12_v12 : W12 m ρ c (Proc.devRef .tc main_v12) = shapeCast S1x128 (arg m c main_arg4) shapeCasts_S128_S1x128 := by
  refine (b1_eq (W11 m ρ c)).trans ?_
  rw [W11_args m ρ c main_arg4 (by decide)]
/-- the scale, -/
theorem W12_v13 : W12 m ρ c (Proc.devRef .tc main_v13) = shapeCast S1x128 (arg m c main_arg5) shapeCasts_S128_S1x128 := by
  refine (g_eq (W11 m ρ c)).trans ?_
  rw [W11_args m ρ c main_arg5 (by decide)]
/-- the shift -/
theorem W12_v14 : W12 m ρ c (Proc.devRef .tc main_v14) = shapeCast S1x128 (arg m c main_arg6) shapeCasts_S128_S1x128 := by
  refine (b_eq (W11 m ρ c)).trans ?_
  rw [W11_args m ρ c main_arg6 (by decide)]
/-- and the second bias. -/
theorem W12_v15 : W12 m ρ c (Proc.devRef .tc main_v15) = shapeCast S1x128 (arg m c main_arg8) shapeCasts_S128_S1x128 := by
  refine (b2_eq (W11 m ρ c)).trans ?_
  rw [W11_args m ρ c main_arg8 (by decide)]

/-- The head's rows. -/
def headArr : Vec Ideal S1024x128 .f32 :=
  headOf (memArr m c) (k3_pay9 (F := Ideal) (valArr m c)) (tokRows m c) (arg m c main_arg3) (shapeCast S1x128 (arg m c main_arg4) shapeCasts_S128_S1x128)
    (shapeCast S1x128 (arg m c main_arg5) shapeCasts_S128_S1x128) (shapeCast S1x128 (arg m c main_arg6) shapeCasts_S128_S1x128) (arg m c main_arg7)
    (shapeCast S1x128 (arg m c main_arg8) shapeCasts_S128_S1x128)

/-- The last call leaves the head's rows. -/
theorem W13_v16 : W13 m ρ c (Proc.devRef .tc main_v16) = headArr m c := by
  refine (W13_arr m ρ c 9).trans ((final4_9 (V12 m ρ) c).trans ?_)
  show headOf (W12 m ρ c (Proc.devRef .tc main_v11)) (W12 m ρ c (Proc.devRef .tc main_v9_0)) (W12 m ρ c (Proc.devRef .tc main_v0))
    (W12 m ρ c (Proc.devRef .tc main_arg3)) (W12 m ρ c (Proc.devRef .tc main_v12)) (W12 m ρ c (Proc.devRef .tc main_v13))
    (W12 m ρ c (Proc.devRef .tc main_v14)) (W12 m ρ c (Proc.devRef .tc main_arg7)) (W12 m ρ c (Proc.devRef .tc main_v15)) = _
  rw [W12_v11, W12_v9_0, W12_v0, W12_v12, W12_v13, W12_v14, W12_v15, W12_args m ρ c main_arg3 (by decide), W12_args m ρ c main_arg7 (by decide)]
  rfl

/-- The result. -/
theorem W14_v17 : W14 m ρ c (Proc.devRef .tc main_v17) = shapeCast S2x512x128 (headArr m c) shapeCasts_S1024x128_S2x512x128 := by
  refine (res_eq (W13 m ρ c)).trans ?_
  rw [W13_v16]

end Cert.KernelIdeal.Run
-- ==== Proof.Value.Pick.lean ====
/- Picking the largest entries one tag at a time. Every entry carries a tag; each trip finds the maximum, takes the tag of an
   entry that attains it, and clears the entries at the maximum that carry that tag. -/
module

public import Mathlib.Data.EReal.Basic
public import Mathlib.Data.Finset.Card
public import Mathlib.Data.Fintype.Basic

@[expose] public section

noncomputable section

namespace Cert.Pick

variable {ι β : Type} [Fintype ι] [DecidableEq β]

/-- One trip from `x` to `y`: `v` is the maximum, `s` the tag of an entry that attains it, and the entries at the maximum
    that carry `s` are cleared. -/
structure Trip (a : ι → β) (x y : ι → EReal) (v : EReal) (s : β) : Prop where
  attained : ∃ i, x i = v ∧ a i = s
  le : ∀ i, x i ≤ v
  next : ∀ i, y i = if x i = v ∧ a i = s then ⊥ else x i

variable {a : ι → β} {xs : ℕ → ι → EReal} {v : ℕ → EReal} {s : ℕ → β}

/-- After `k` trips the entries whose tag was taken are cleared and the others are as at the start. -/
theorem state (hdet : ∀ i j, a i = a j → xs 0 i = xs 0 j) {K : ℕ} (h : ∀ k < K, Trip a (xs k) (xs (k + 1)) (v k) (s k)) :
    ∀ k ≤ K, ∀ i, xs k i = if ∃ j < k, s j = a i then ⊥ else xs 0 i := by
  intro k
  induction k with
  | zero => intro _ i; simp
  | succ k ih =>
    intro hk i
    have T := h k (by omega)
    have ihk := ih (by omega)
    obtain ⟨i0, hv, hs⟩ := T.attained
    rw [T.next i]
    by_cases hi : a i = s k
    · have hex : ∃ j < k + 1, s j = a i := ⟨k, by omega, hi.symm⟩
      rw [if_pos hex]
      by_cases hp : ∃ j < k, s j = a i
      · have : xs k i = ⊥ := by rw [ihk i, if_pos hp]
        rw [this]; split <;> rfl
      · have e1 : xs k i = xs 0 i := by rw [ihk i, if_neg hp]
        have e0 : xs k i0 = xs 0 i0 := by rw [ihk i0, if_neg (by rw [hs, ← hi]; exact hp)]
        rw [if_pos ⟨by rw [e1, hdet i i0 (hi.trans hs.symm), ← e0, hv], hi⟩]
    · rw [if_neg (fun hc => hi hc.2), ihk i]
      have : (∃ j < k + 1, s j = a i) ↔ ∃ j < k, s j = a i := by
        constructor
        · rintro ⟨j, hj, e⟩
          refine ⟨j, ?_, e⟩
          rcases Nat.lt_succ_iff_lt_or_eq.mp hj with h' | h'
          · exact h'
          · subst h'; exact absurd e.symm hi
        · rintro ⟨j, hj, e⟩; exact ⟨j, by omega, e⟩
      simp only [this]

/-- While an entry at least `θ` is uncleared, a trip takes the tag of one, not taken before, and its value. -/
theorem fresh (hdet : ∀ i j, a i = a j → xs 0 i = xs 0 j) {K : ℕ} (h : ∀ k < K, Trip a (xs k) (xs (k + 1)) (v k) (s k))
    {θ : EReal} (hθ : ⊥ < θ) {k : ℕ} (hk : k < K) (hne : ∃ i, θ ≤ xs 0 i ∧ ¬ ∃ j < k, s j = a i) :
    (∃ i, θ ≤ xs 0 i ∧ a i = s k ∧ v k = xs 0 i) ∧ ∀ j < k, s j ≠ s k := by
  have T := h k hk
  have st := state hdet h k hk.le
  obtain ⟨i, hi, hni⟩ := hne
  obtain ⟨i0, hv, hs⟩ := T.attained
  have h1 : θ ≤ v k := by
    have := T.le i
    rw [st i, if_neg hni] at this
    exact hi.trans this
  have h2 : ¬ ∃ j < k, s j = a i0 := by
    intro hc
    have e := st i0
    rw [if_pos hc, hv] at e
    exact absurd (e ▸ h1) (not_le.mpr hθ)
  have h3 : v k = xs 0 i0 := by rw [← hv, st i0, if_neg h2]
  exact ⟨⟨i0, h3 ▸ h1, hs, h3⟩, fun j hj e => h2 ⟨j, hj, e.trans hs.symm⟩⟩

/-- The tags of the entries at least `θ`. -/
def tags (a : ι → β) (x : ι → EReal) (θ : EReal) : Finset β := by
  classical exact (Finset.univ.filter fun i => θ ≤ x i).image a

/-- A tag is among them where some entry that carries it reaches the bound. -/
theorem mem_tags {x : ι → EReal} {θ : EReal} {b : β} : b ∈ tags a x θ ↔ ∃ i, θ ≤ x i ∧ a i = b := by
  classical
  unfold tags
  simp

/-- With at most `K` tags at or above `θ`, `K` trips take them all. -/
theorem all_taken (hdet : ∀ i j, a i = a j → xs 0 i = xs 0 j) {K : ℕ} (h : ∀ k < K, Trip a (xs k) (xs (k + 1)) (v k) (s k))
    {θ : EReal} (hθ : ⊥ < θ) (hc : (tags a (xs 0) θ).card ≤ K) {i : ι} (hi : θ ≤ xs 0 i) : ∃ k < K, s k = a i := by
  classical
  by_contra hn
  have key : ∀ k < K, (∃ i, θ ≤ xs 0 i ∧ a i = s k ∧ v k = xs 0 i) ∧ ∀ j < k, s j ≠ s k := fun k hk =>
    fresh hdet h hθ hk ⟨i, hi, fun ⟨j, hj, e⟩ => hn ⟨j, by omega, e⟩⟩
  have hinj : Set.InjOn s (Finset.range K : Set ℕ) := by
    intro p hp q hq e
    simp only [Finset.coe_range, Set.mem_Iio] at hp hq
    rcases lt_trichotomy p q with hlt | heq | hgt
    · exact absurd e ((key q hq).2 p hlt)
    · exact heq
    · exact absurd e.symm ((key p hp).2 q hgt)
  have hsub : (Finset.range K).image s ⊆ (tags a (xs 0) θ).erase (a i) := by
    intro b hb
    obtain ⟨k, hk, rfl⟩ := Finset.mem_image.mp hb
    have hk' := Finset.mem_range.mp hk
    obtain ⟨⟨i', h1, h2, -⟩, -⟩ := key k hk'
    exact Finset.mem_erase.mpr ⟨fun e => hn ⟨k, hk', e⟩, mem_tags.mpr ⟨i', h1, h2⟩⟩
  have h1 := Finset.card_le_card hsub
  rw [Finset.card_image_of_injOn hinj, Finset.card_range, Finset.card_erase_of_mem (mem_tags.mpr ⟨i, hi, rfl⟩)] at h1
  have h2 : 0 < (tags a (xs 0) θ).card := Finset.card_pos.mpr ⟨_, mem_tags.mpr ⟨i, hi, rfl⟩⟩
  omega

/-- With exactly `K` tags at or above `θ`, the `K` trips take each once, with its value. -/
theorem exact_taken (hdet : ∀ i j, a i = a j → xs 0 i = xs 0 j) {K : ℕ} (h : ∀ k < K, Trip a (xs k) (xs (k + 1)) (v k) (s k))
    {θ : EReal} (hθ : ⊥ < θ) (hc : (tags a (xs 0) θ).card = K) :
    Set.InjOn s (Finset.range K : Set ℕ) ∧ ∀ k < K, ∃ i, θ ≤ xs 0 i ∧ a i = s k ∧ v k = xs 0 i := by
  classical
  have hsub : tags a (xs 0) θ ⊆ (Finset.range K).image s := by
    intro b hb
    obtain ⟨i, hi, rfl⟩ := mem_tags.mp hb
    obtain ⟨k, hk, e⟩ := all_taken hdet h hθ hc.le hi
    exact Finset.mem_image.mpr ⟨k, Finset.mem_range.mpr hk, e⟩
  refine ⟨Finset.injOn_of_card_image_eq (le_antisymm Finset.card_image_le ?_), fun k hk => ?_⟩
  · have := Finset.card_le_card hsub
    rw [Finset.card_range]
    omega
  · have hne : ∃ i, θ ≤ xs 0 i ∧ ¬ ∃ j < k, s j = a i := by
      by_contra hall
      have hs2 : tags a (xs 0) θ ⊆ (Finset.range k).image s := by
        intro b hb
        obtain ⟨i, hi, rfl⟩ := mem_tags.mp hb
        by_contra hb'
        refine hall ⟨i, hi, fun ⟨j, hj, e⟩ => hb' (Finset.mem_image.mpr ⟨j, Finset.mem_range.mpr hj, e⟩)⟩
      have := (Finset.card_le_card hs2).trans Finset.card_image_le
      rw [Finset.card_range] at this
      omega
    exact (fresh hdet h hθ hk hne).1

end Cert.Pick
-- ==== Proof.Value.Trips.lean ====
/- The selection loops, one row at a time: each trip of a loop takes the tag of a largest entry and clears the entries at the
   maximum that carry it. -/
module

public import proofs.«01_k».proof.Proof.Extract
public import proofs.«01_k».proof.Proof.Region1
public import proofs.«01_k».proof.Proof.Value.Pick
public import Idealize.ShloMosaic.Lib.Pointwise
public import Idealize.ShloMosaic.PureOps.Ideal.Laws

@[expose] public section

set_option maxRecDepth 16384

noncomputable section

namespace Cert.KernelIdeal.Run

open Idealize.ShloMosaic Cert.KernelIdeal Cert.KernelIdeal.Gen

/-- A fold of an operation that returns one of its operands is the initial value or one of the entries. -/
theorem fold_mem {α ι : Type} [DecidableEq ι] (op : α → α → α) [Std.Commutative op] [Std.Associative op]
    (hop : ∀ p q, op p q = p ∨ op p q = q) (b : α) (f : ι → α) (t : Finset ι) :
    t.fold op b f = b ∨ ∃ i ∈ t, t.fold op b f = f i := by
  induction t using Finset.induction_on with
  | empty => left; rfl
  | insert i t hi ih =>
    rw [Finset.fold_insert hi]
    rcases hop (f i) (t.fold op b f) with h | h
    · right; exact ⟨i, Finset.mem_insert_self _ _, h⟩
    · rcases ih with h' | ⟨j, hj, h'⟩
      · left; rw [h, h']
      · right; exact ⟨j, Finset.mem_insert_of_mem hj, h.trans h'⟩

/-- The smaller of two words is one of them -/
theorem minsi_or (p q : BitVec 32) : IntOp.minsi p q = p ∨ IntOp.minsi p q = q := by
  unfold IntOp.minsi
  split
  · left; rfl
  · right; rfl

/-- and is not above the first -/
theorem minsi_le_left (p q : BitVec 32) : (IntOp.minsi p q).toInt ≤ p.toInt := by
  unfold IntOp.minsi
  split
  · exact le_refl _
  · next h => simp [BitVec.slt_iff_toInt_lt, BitVec.sle_iff_toInt_le] at h; omega

/-- nor the second. -/
theorem minsi_le_right (p q : BitVec 32) : (IntOp.minsi p q).toInt ≤ q.toInt := by
  unfold IntOp.minsi
  split
  · next h => simp [BitVec.slt_iff_toInt_lt, BitVec.sle_iff_toInt_le] at h; omega
  · exact le_refl _

/-- The signed minimum is at most every entry. -/
theorem fold_minsi_le {ι : Type} [DecidableEq ι] (b : BitVec 32) (f : ι → BitVec 32) (t : Finset ι) {i : ι} (hi : i ∈ t) :
    (t.fold IntOp.minsi b f).toInt ≤ (f i).toInt := by
  induction t using Finset.induction_on with
  | empty => simp at hi
  | insert j t hj ih =>
    rw [Finset.fold_insert hj]
    rcases Finset.mem_insert.mp hi with rfl | h
    · exact minsi_le_left _ _
    · exact (minsi_le_right _ _).trans (ih h)

/-- The maximum is at least every entry. -/
theorem le_fold_max {ι : Type} [Fintype ι] (f : ι → EReal) (i : ι) : f i ≤ Finset.univ.fold max ⊥ f :=
  Finset.le_fold_max _ |>.mpr (.inr ⟨i, Finset.mem_univ _, le_rfl⟩)

/-- A maximum, the least tag of the entries that attain it, and the clearing of those that carry it make a trip. -/
theorem trip_of_folds {n : ℕ} (i0 : Fin n) (a : Fin n → BitVec 32) (x y : Fin n → EReal) (v : EReal) (s : BitVec 32)
    (hv : v = Finset.univ.fold max ⊥ x)
    (hs : s = Finset.univ.fold IntOp.minsi 2147483647#32 fun l => if x l = v then a l else 2147483647#32)
    (hy : ∀ l, y l = if x l = v ∧ a l = s then ⊥ else x l) : Cert.Pick.Trip a x y v s := by
  have hle : ∀ i, x i ≤ v := fun i => hv ▸ le_fold_max x i
  refine ⟨?_, hle, hy⟩
  have hatt : ∃ i, x i = v := by
    rcases fold_mem max (fun p q => (max_choice p q)) ⊥ x Finset.univ with h | ⟨i, -, h⟩
    · exact ⟨i0, le_antisymm (hle i0) (by rw [hv, h]; exact bot_le)⟩
    · exact ⟨i, by rw [hv, h]⟩
  obtain ⟨i1, h1⟩ := hatt
  have key : s = 2147483647#32 → ∃ i, x i = v ∧ a i = s := by
    intro e
    refine ⟨i1, h1, ?_⟩
    have := fold_minsi_le 2147483647#32 (fun l => if x l = v then a l else 2147483647#32) Finset.univ (Finset.mem_univ i1)
    rw [← hs, e] at this
    simp only [h1, if_true] at this
    have h2 : (a i1).toInt < 2 ^ 31 := by have := BitVec.toInt_lt (x := a i1); simpa using this
    rw [e]
    apply BitVec.eq_of_toInt_eq
    have h3 : (2147483647#32).toInt = 2147483647 := by decide
    omega
  rcases fold_mem IntOp.minsi minsi_or 2147483647#32 (fun l => if x l = v then a l else 2147483647#32) Finset.univ with h | ⟨i, -, h⟩
  · exact key (hs.trans h)
  · rw [← hs] at h
    by_cases hx : x i = v
    · rw [if_pos hx] at h; exact ⟨i, hx, h.symm⟩
    · rw [if_neg hx] at h; exact key h

/-- The word of minus infinity is the least extended real. -/
theorem ofBits_bot : Ideal.ofBits .f32 0xFF800000#32 = (⊥ : EReal) := rfl

/-- A choice under two conditions as single bits. -/
theorem select_and (p q : Prop) [Decidable p] [Decidable q] {α : Type} (u w : α) :
    Scalar.select (IntOp.andi (BitVec.ofBool (decide p)) (BitVec.ofBool (decide q))) u w = if p ∧ q then u else w := by
  by_cases hp : p <;> by_cases hq : q <;> simp [hp, hq, Scalar.select, IntOp.andi]

/-- The row maximum of the 512 candidates. -/
theorem k2_pay4_apply (x : Vec Ideal S1024x512 .f32) (r : Fin 1024) :
    k2_pay4 (F := Ideal) x (ix2 r 0) = Finset.univ.fold max ⊥ fun l : Fin 512 => x (ix2 r l) := by
  pointwise [k2_pay4]
  rfl

/-- The least tag of the candidates at the row maximum. -/
theorem k2_pay6_apply (a : Vec Ideal S1024x512 .i32) (x : Vec Ideal S1024x512 .f32) (r : Fin 1024) :
    k2_pay6 (F := Ideal) a x (ix2 r 0) = Finset.univ.fold IntOp.minsi 2147483647#32 fun l : Fin 512 =>
      if x (ix2 r l) = k2_pay4 (F := Ideal) x (ix2 r 0) then a (ix2 r l) else 2147483647#32 := by
  pointwise [k2_pay6, k2_pay5, k2_pay3]

/-- The clearing of the candidates at the row maximum that carry that tag. -/
theorem k2_pay9_apply (a : Vec Ideal S1024x512 .i32) (x : Vec Ideal S1024x512 .f32) (r : Fin 1024) (l : Fin 512) :
    k2_pay9 (F := Ideal) a x (ix2 r l) =
      if x (ix2 r l) = k2_pay4 (F := Ideal) x (ix2 r 0) ∧ a (ix2 r l) = k2_pay6 (F := Ideal) a x (ix2 r 0) then ⊥ else x (ix2 r l) := by
  pointwise [k2_pay9, k2_pay5, k2_pay3]
  exact (select_and _ _ _ _).trans rfl

/-- The loop over 512 candidates makes trips on every row. -/
theorem trips2 (a : Vec Ideal S1024x512 .i32) (x : Vec Ideal S1024x512 .f32) (r : Fin 1024) (k : ℕ) :
    Cert.Pick.Trip (fun l : Fin 512 => a (ix2 r l)) (fun l => xs2 a x k (ix2 r l)) (fun l => xs2 a x (k + 1) (ix2 r l))
      (k2_pay4 (F := Ideal) (xs2 a x k) (ix2 r 0)) (k2_pay6 (F := Ideal) a (xs2 a x k) (ix2 r 0)) :=
  trip_of_folds 0 _ _ _ _ _ (k2_pay4_apply _ r) (k2_pay6_apply _ _ r) (fun l => by rw [← xs2_succ]; exact k2_pay9_apply _ _ r l)

/-- The row maximum of the 256 lanes. -/
theorem k1_pay3_apply (x : Vec Ideal S1024x256 .f32) (r : Fin 1024) :
    k1_pay3 (F := Ideal) x (ix2 r 0) = Finset.univ.fold max ⊥ fun l : Fin 256 => x (ix2 r l) := by
  pointwise [k1_pay3]
  rfl

/-- The least lane at the row maximum. -/
theorem k1_pay5_apply (x : Vec Ideal S1024x256 .f32) (r : Fin 1024) :
    k1_pay5 (F := Ideal) x (ix2 r 0) = Finset.univ.fold IntOp.minsi 2147483647#32 fun l : Fin 256 =>
      if x (ix2 r l) = k1_pay3 (F := Ideal) x (ix2 r 0) then BitVec.ofNat 32 l.val else 2147483647#32 := by
  pointwise [k1_pay5, k1_pay4]

/-- The clearing of that lane. -/
theorem k1_pay8_apply (x : Vec Ideal S1024x256 .f32) (r : Fin 1024) (l : Fin 256) :
    k1_pay8 (F := Ideal) x (ix2 r l) =
      if x (ix2 r l) = k1_pay3 (F := Ideal) x (ix2 r 0) ∧ BitVec.ofNat 32 l.val = k1_pay5 (F := Ideal) x (ix2 r 0) then ⊥ else x (ix2 r l) := by
  pointwise [k1_pay8, k1_pay4]
  exact (select_and _ _ _ _).trans rfl

/-- The loop over 256 lanes makes trips on every row. -/
theorem trips1 (x : Vec Ideal S1024x256 .f32) (r : Fin 1024) (k : ℕ) :
    Cert.Pick.Trip (fun l : Fin 256 => BitVec.ofNat 32 l.val) (fun l => xs1 x k (ix2 r l)) (fun l => xs1 x (k + 1) (ix2 r l))
      (k1_pay3 (F := Ideal) (xs1 x k) (ix2 r 0)) (k1_pay5 (F := Ideal) (xs1 x k) (ix2 r 0)) :=
  trip_of_folds 0 _ _ _ _ _ (k1_pay3_apply _ r) (k1_pay5_apply _ r) (fun l => by rw [← xs1_succ]; exact k1_pay8_apply _ r l)

end Cert.KernelIdeal.Run
-- ==== Proof.Value.Cols.lean ====
/- The index lists of the two expanding calls: which columns the candidates stand for. -/
module

public import proofs.«01_k».proof.Proof.Value.Trips
public import proofs.«01_k».proof.Proof.Value.Words
public import proofs.«01_k».proof.Proof.Region2

@[expose] public section

set_option maxRecDepth 16384

noncomputable section

namespace Cert.KernelIdeal.Run

open Idealize.ShloMosaic Cert.KernelIdeal Cert.KernelIdeal.Gen Cert.Words

/-- The position of a candidate among the 32 selected entries. -/
abbrev slot (q : Fin 512) : Fin 32 := ⟨q.val / 16, by omega⟩

/-- Zero added on the left. -/
theorem zero_add_ereal (x : EReal) : (0 : EReal) + x = x := zero_add x

/-- The first expansion copies each selected lane sixteen times. -/
theorem k1_pay9_apply (s : Vec Ideal S1024x32 .i32) (r : Fin 1024) (q : Fin 512) :
    k1_pay9 (F := Ideal) s (ix2 r q) = (((s (ix2 r (slot q))).toInt : ℝ) : EReal) := by
  pointwise [k1_pay9]
  simp only [fdiv_word (a := q.val) (n := 16) (by omega) (by omega) (by omega)]
  exact sum_indicator (by omega) (fun k => FloatOps.sitofp (F := Ideal) .f32 (s (ix2 r k))) (slot q) _ rfl

/-- The flat position, in the block maxima, of each candidate. -/
theorem outB_apply (x : Vec Ideal S1024x256 .f32) (r : Fin 1024) (q : Fin 512) {l : ℕ}
    (hl : sel1 (F := Ideal) x (ix2 r (slot q)) = BitVec.ofNat 32 l) :
    outB (F := Ideal) x (ix2 r q) = BitVec.ofNat 32 (r.val * 4096 + q.val % 16 * 256 + l) := by
  unfold outB
  have e : Scalar.select (Scalar.cmpi .eq 16#32 0#32) 1#32 16#32 = 16#32 := rfl
  pointwise [k1_pay1]
  rw [e, fmod_word (a := q.val) (n := 16) (by omega) (by omega) (by omega), k1_pay9_apply, fptosi_sitofp, hl]
  simp only [muli_word, addi_word]

/-- A flat position cut down to its column. -/
theorem k2_pay10_apply (s : Vec Ideal S1024x32 .i32) (r : Fin 1024) (k : Fin 32) {n : ℕ} (hn : n < 2 ^ 31)
    (hs : s (ix2 r k) = BitVec.ofNat 32 n) : k2_pay10 (F := Ideal) s (ix2 r k) = BitVec.ofNat 32 (n % 4096) := by
  have e : Scalar.select (Scalar.cmpi .eq 4096#32 0#32) 1#32 4096#32 = 4096#32 := rfl
  pointwise [k2_pay10]
  rw [e, hs, fmod_word (a := n) (n := 4096) hn (by omega) (by omega)]

/-- The column, in the similarities, of each of the last candidates. -/
theorem outDs_apply (s : Vec Ideal S1024x32 .i32) (r : Fin 1024) (q : Fin 512) {n : ℕ} (hn : n < 2 ^ 31)
    (hs : s (ix2 r (slot q)) = BitVec.ofNat 32 n) :
    outDs (F := Ideal) s (ix2 r q) = BitVec.ofNat 32 (n % 4096 / 256 * 4096 + n % 4096 % 256 + q.val % 16 * 256) := by
  have e16 : Scalar.select (Scalar.cmpi .eq 16#32 0#32) 1#32 16#32 = 16#32 := rfl
  have e256 : Scalar.select (Scalar.cmpi .eq 256#32 0#32) 1#32 256#32 = 256#32 := rfl
  pointwise [outDs, k2_pay1, k2_pay13, k2_pay14, k2_pay15, k2_pay11, k2_pay12]
  simp only [e16, e256, fmod_word (a := q.val) (n := 16) (by omega) (by omega) (by omega),
    fdiv_word (a := q.val) (n := 16) (by omega) (by omega) (by omega)]
  rw [sum_indicator (by omega) _ (slot q) _ rfl, k2_pay10_apply s r (slot q) hn hs,
    fdiv_word (a := n % 4096) (n := 256) (by omega) (by omega) (by omega),
    fmod_word (a := n % 4096) (n := 256) (by omega) (by omega) (by omega), sitofp_def, fptosi_sitofp]
  simp only [muli_word, addi_word]

end Cert.KernelIdeal.Run
-- ==== Proof.Value.Stages.lean ====
module

public import proofs.«01_k».proof.Proof.Value.Cols
public import proofs.«01_k».proof.Proof.Value.Trips
public import proofs.«01_k».proof.Proof.Value.Sims

/-! The three selections of a row. `p` lists 32 columns and `θ` is a bound only they reach. The first selection takes every lane
of a listed column, the second the group of every listed column, the third exactly the listed columns, in some order. -/

@[expose] public section

set_option maxRecDepth 16384

noncomputable section

namespace Cert.KernelIdeal.Run

open Cert.KernelIdeal Cert.KernelIdeal.Gen Idealize.ShloMosaic Idealize.ShloMosaic.TcCoe Cert.Words

/-- The first selection starts from the array it is given, -/
theorem k1_pay2_id (x : Vec Ideal S1024x256 .f32) (r : Fin 1024) (l : Fin 256) : xs1 x 0 (ix2 r l) = x (ix2 r l) := by
  show k1_pay2 (F := Ideal) x (ix2 r l) = _
  pointwise [k1_pay2]

/-- and so do the other two. -/
theorem k2_pay2_id (a : Vec Ideal S1024x512 .i32) (x : Vec Ideal S1024x512 .f32) (r : Fin 1024) (l : Fin 512) : xs2 a x 0 (ix2 r l) = x (ix2 r l) := by
  show k2_pay2 (F := Ideal) x (ix2 r l) = _
  pointwise [k2_pay2]

variable (x : Vec Ideal S1024x128 .f32) (k : Vec Ideal S65536x128 .f32) (t : Fin 1024) (p : Fin 32 → Fin 65536) (θ : EReal)

/-- Only the listed columns reach the bound. -/
def Lists : Prop := ⊥ < θ ∧ ∀ g, θ ≤ simsOf x k (ix2 t g) ↔ ∃ i, p i = g

/-- A selected lane is a lane. -/
theorem sel1_lane (y : Vec Ideal S1024x256 .f32) (i : Fin 32) : ∃ l : Fin 256, sel1 y (ix2 t i) = BitVec.ofNat 32 l.val := by
  obtain ⟨l, -, h⟩ := (trips1 y t i.val).attained
  exact ⟨l, h.symm⟩

/-- The lane of a column's group maximum reaches what the column reaches. -/
theorem lane_reach (g : Fin 65536) (hg : θ ≤ simsOf x k (ix2 t g)) :
    θ ≤ groupsOf x k (ix2 t (⟨g.val / 4096 * 256 + g.val % 256, by omega⟩ : Fin 4096)) :=
  (groupsOf_le x k t ⟨g.val / 4096, by omega⟩ ⟨g.val % 256, by omega⟩ θ).mpr ⟨⟨g.val % 4096 / 256, by omega⟩, by
    have : (⟨g.val / 4096 * 4096 + g.val % 4096 / 256 * 256 + g.val % 256, by omega⟩ : Fin 65536) = g := Fin.ext (by show g.val / 4096 * 4096 + g.val % 4096 / 256 * 256 + g.val % 256 = g.val; omega)
    show θ ≤ simsOf x k (ix2 t ⟨g.val / 4096 * 4096 + g.val % 4096 / 256 * 256 + g.val % 256, _⟩)
    rw [this]
    exact hg⟩

variable {x k t p θ} in
/-- Every lane of a listed column is selected. -/
theorem lanes_taken (h : Lists x k t p θ) (g : Fin 65536) (hg : θ ≤ simsOf x k (ix2 t g)) :
    ∃ i : Fin 32, sel1 (runningOf x k 15 (by omega)) (ix2 t i) = BitVec.ofNat 32 (g.val % 256) := by
  classical
  have hc : (Cert.Pick.tags (fun l : Fin 256 => BitVec.ofNat 32 l.val) (fun l => xs1 (runningOf x k 15 (by omega)) 0 (ix2 t l)) θ).card ≤ 32 := by
    refine (Finset.card_le_card (t := Finset.univ.image fun i : Fin 32 => BitVec.ofNat 32 ((p i).val % 256)) ?_).trans (Finset.card_image_le.trans (by simp))
    intro b hb
    obtain ⟨l, hl, rfl⟩ := Cert.Pick.mem_tags.mp hb
    rw [k1_pay2_id] at hl
    obtain ⟨c, hc⟩ := (running_le x k t l θ).mp hl
    obtain ⟨j, hj⟩ := (groupsOf_le x k t c l θ).mp hc
    obtain ⟨i, hi⟩ := (h.2 _).mp hj
    refine Finset.mem_image.mpr ⟨i, Finset.mem_univ _, ?_⟩
    show BitVec.ofNat 32 ((p i).val % 256) = BitVec.ofNat 32 l.val
    rw [hi]
    refine congrArg (BitVec.ofNat 32) ?_
    show (c.val * 4096 + j.val * 256 + l.val) % 256 = l.val
    omega
  have hi : θ ≤ xs1 (runningOf x k 15 (by omega)) 0 (ix2 t (⟨g.val % 256, by omega⟩ : Fin 256)) := by
    rw [k1_pay2_id]
    exact (running_le x k t ⟨g.val % 256, by omega⟩ θ).mpr ⟨⟨g.val / 4096, by omega⟩, lane_reach x k t θ g hg⟩
  obtain ⟨i, hi, e⟩ := Cert.Pick.all_taken (xs := fun n l => xs1 (runningOf x k 15 (by omega)) n (ix2 t l))
    (s := fun n => k1_pay5 (F := Ideal) (xs1 (runningOf x k 15 (by omega)) n) (ix2 t 0))
    (fun i j e => by rw [show i = j from Fin.ext ((word_inj (by omega) (by omega)).mp e)]) (fun n _ => trips1 _ t n) h.1 hc hi
  exact ⟨⟨i, hi⟩, e⟩

/-- A candidate's word is a group of its row. -/
theorem cand_word (y : Vec Ideal S1024x256 .f32) (q : Fin 512) : ∃ n : Fin 4096, outB y (ix2 t q) = BitVec.ofNat 32 (t.val * 4096 + n.val) := by
  obtain ⟨l, hl⟩ := sel1_lane t y (slot q)
  refine ⟨⟨q.val % 16 * 256 + l.val, by omega⟩, ?_⟩
  rw [outB_apply y t q hl, Nat.add_assoc]

variable {x k t p θ} in
/-- The group of every listed column is a candidate. -/
theorem cands_taken (h : Lists x k t p θ) (g : Fin 65536) (hg : θ ≤ simsOf x k (ix2 t g)) :
    ∃ q : Fin 512, outB (runningOf x k 15 (by omega)) (ix2 t q) = BitVec.ofNat 32 (t.val * 4096 + (g.val / 4096 * 256 + g.val % 256)) := by
  obtain ⟨i, hi⟩ := lanes_taken h g hg
  have hs : slot (⟨i.val * 16 + g.val / 4096, by omega⟩ : Fin 512) = i := Fin.ext (by show (i.val * 16 + g.val / 4096) / 16 = i.val; omega)
  refine ⟨⟨i.val * 16 + g.val / 4096, by omega⟩, ?_⟩
  rw [outB_apply _ t _ (by rw [hs]; exact hi)]
  refine congrArg (BitVec.ofNat 32) ?_
  show t.val * 4096 + (i.val * 16 + g.val / 4096) % 16 * 256 + g.val % 256 = t.val * 4096 + (g.val / 4096 * 256 + g.val % 256)
  omega

variable (c : Vec Ideal S1024x512 .i32) (y : Vec Ideal S1024x512 .f32)

/-- A second candidate's word is a column. -/
theorem col_word (hw : ∀ q, ∃ n : Fin 4096, c (ix2 t q) = BitVec.ofNat 32 (t.val * 4096 + n.val)) (q : Fin 512) :
    ∃ g : Fin 65536, outD y c (ix2 t q) = BitVec.ofNat 32 g.val := by
  obtain ⟨l, -, e⟩ := (trips2 c y t (slot q).val).attained
  obtain ⟨n, hn⟩ := hw l
  refine ⟨⟨(t.val * 4096 + n.val) % 4096 / 256 * 4096 + (t.val * 4096 + n.val) % 4096 % 256 + q.val % 16 * 256, by omega⟩, ?_⟩
  exact outDs_apply _ t q (by omega) (e.symm.trans hn)

variable {x k t p θ c y} in
/-- Every listed column is a second candidate. -/
theorem cols_taken (h : Lists x k t p θ) (hw : ∀ q, ∃ n : Fin 4096, c (ix2 t q) = BitVec.ofNat 32 (t.val * 4096 + n.val))
    (hy : ∀ q (n : Fin 4096), c (ix2 t q) = BitVec.ofNat 32 (t.val * 4096 + n.val) → y (ix2 t q) = groupsOf x k (ix2 t n))
    (ht : ∀ g : Fin 65536, θ ≤ simsOf x k (ix2 t g) → ∃ q : Fin 512, c (ix2 t q) = BitVec.ofNat 32 (t.val * 4096 + (g.val / 4096 * 256 + g.val % 256)))
    (g : Fin 65536) (hg : θ ≤ simsOf x k (ix2 t g)) : ∃ q : Fin 512, outD y c (ix2 t q) = BitVec.ofNat 32 g.val := by
  classical
  have hc : (Cert.Pick.tags (fun l : Fin 512 => c (ix2 t l)) (fun l => xs2 c y 0 (ix2 t l)) θ).card ≤ 32 := by
    refine (Finset.card_le_card (t := Finset.univ.image fun i : Fin 32 => BitVec.ofNat 32 (t.val * 4096 + ((p i).val / 4096 * 256 + (p i).val % 256))) ?_).trans
      (Finset.card_image_le.trans (by simp))
    intro b hb
    obtain ⟨q, hq, rfl⟩ := Cert.Pick.mem_tags.mp hb
    obtain ⟨n, hn⟩ := hw q
    rw [k2_pay2_id, hy q n hn] at hq
    have hn' : (⟨n.val / 256 * 256 + n.val % 256, by omega⟩ : Fin 4096) = n := Fin.ext (by show n.val / 256 * 256 + n.val % 256 = n.val; omega)
    obtain ⟨j, hj⟩ := (groupsOf_le x k t ⟨n.val / 256, by omega⟩ ⟨n.val % 256, by omega⟩ θ).mp (by
      show θ ≤ groupsOf x k (ix2 t ⟨n.val / 256 * 256 + n.val % 256, _⟩)
      rw [hn']
      exact hq)
    obtain ⟨i, hi⟩ := (h.2 _).mp hj
    refine Finset.mem_image.mpr ⟨i, Finset.mem_univ _, ?_⟩
    show BitVec.ofNat 32 (t.val * 4096 + ((p i).val / 4096 * 256 + (p i).val % 256)) = c (ix2 t q)
    rw [hi, hn]
    refine congrArg (BitVec.ofNat 32) ?_
    show t.val * 4096 + ((n.val / 256 * 4096 + j.val * 256 + n.val % 256) / 4096 * 256 + (n.val / 256 * 4096 + j.val * 256 + n.val % 256) % 256) = _
    omega
  obtain ⟨q, hq⟩ := ht g hg
  have hi : θ ≤ xs2 c y 0 (ix2 t q) := by
    rw [k2_pay2_id, hy q ⟨g.val / 4096 * 256 + g.val % 256, by omega⟩ hq]
    exact lane_reach x k t θ g hg
  obtain ⟨i, hi, e⟩ := Cert.Pick.all_taken (a := fun l : Fin 512 => c (ix2 t l)) (xs := fun n l => xs2 c y n (ix2 t l))
    (s := fun n => k2_pay6 (F := Ideal) c (xs2 c y n) (ix2 t 0))
    (fun i j e => by
      obtain ⟨n, hn⟩ := hw i
      show xs2 c y 0 (ix2 t i) = xs2 c y 0 (ix2 t j)
      rw [k2_pay2_id, k2_pay2_id, hy i n hn, hy j n (e.symm.trans hn)]) (fun n _ => trips2 c y t n) h.1 hc hi
  have hs : slot (⟨i * 16 + g.val % 4096 / 256, by omega⟩ : Fin 512) = ⟨i, hi⟩ := Fin.ext (by show (i * 16 + g.val % 4096 / 256) / 16 = i; omega)
  refine ⟨⟨i * 16 + g.val % 4096 / 256, by omega⟩, ?_⟩
  refine (outDs_apply (sel2 c y) t _ (n := t.val * 4096 + (g.val / 4096 * 256 + g.val % 256)) (by omega) (by rw [hs]; exact e.trans hq)).trans ?_
  refine congrArg (BitVec.ofNat 32) ?_
  show (t.val * 4096 + (g.val / 4096 * 256 + g.val % 256)) % 4096 / 256 * 4096 + (t.val * 4096 + (g.val / 4096 * 256 + g.val % 256)) % 4096 % 256
    + (i * 16 + g.val % 4096 / 256) % 16 * 256 = g.val
  omega

variable {x k t p θ c y} in
/-- The last selection takes the listed columns, in some order, with their similarities. -/
theorem listed_taken (h : Lists x k t p θ) (hp : Function.Injective p) (hw : ∀ q, ∃ g : Fin 65536, c (ix2 t q) = BitVec.ofNat 32 g.val)
    (hy : ∀ q (g : Fin 65536), c (ix2 t q) = BitVec.ofNat 32 g.val → y (ix2 t q) = simsOf x k (ix2 t g))
    (ht : ∀ g : Fin 65536, θ ≤ simsOf x k (ix2 t g) → ∃ q : Fin 512, c (ix2 t q) = BitVec.ofNat 32 g.val) :
    ∃ σ : Fin 32 ≃ Fin 32, ∀ i, sel2 c y (ix2 t i) = BitVec.ofNat 32 (p (σ i)).val ∧ vals2 c y (ix2 t i) = simsOf x k (ix2 t (p (σ i))) := by
  classical
  have hT : Cert.Pick.tags (fun l : Fin 512 => c (ix2 t l)) (fun l => xs2 c y 0 (ix2 t l)) θ = Finset.univ.image fun i : Fin 32 => BitVec.ofNat 32 (p i).val := by
    ext b
    constructor
    · intro hb
      obtain ⟨q, hq, rfl⟩ := Cert.Pick.mem_tags.mp hb
      obtain ⟨g, hg⟩ := hw q
      rw [k2_pay2_id, hy q g hg] at hq
      obtain ⟨i, hi⟩ := (h.2 g).mp hq
      refine Finset.mem_image.mpr ⟨i, Finset.mem_univ _, ?_⟩
      rw [hi]
      exact hg.symm
    · intro hb
      obtain ⟨i, -, rfl⟩ := Finset.mem_image.mp hb
      have hg := (h.2 (p i)).mpr ⟨i, rfl⟩
      obtain ⟨q, hq⟩ := ht (p i) hg
      refine Cert.Pick.mem_tags.mpr ⟨q, ?_, hq⟩
      rw [k2_pay2_id, hy q (p i) hq]
      exact hg
  have hc : (Cert.Pick.tags (fun l : Fin 512 => c (ix2 t l)) (fun l => xs2 c y 0 (ix2 t l)) θ).card = 32 := by
    rw [hT, Finset.card_image_of_injective _ fun i j e => hp (Fin.ext ((word_inj (by omega) (by omega)).mp e))]
    simp
  obtain ⟨hinj, hall⟩ := Cert.Pick.exact_taken (a := fun l : Fin 512 => c (ix2 t l)) (xs := fun n l => xs2 c y n (ix2 t l))
    (s := fun n => k2_pay6 (F := Ideal) c (xs2 c y n) (ix2 t 0)) (v := fun n => k2_pay4 (F := Ideal) (xs2 c y n) (ix2 t 0))
    (fun i j e => by
      obtain ⟨g, hg⟩ := hw i
      show xs2 c y 0 (ix2 t i) = xs2 c y 0 (ix2 t j)
      rw [k2_pay2_id, k2_pay2_id, hy i g hg, hy j g (e.symm.trans hg)]) (fun n _ => trips2 c y t n) h.1 hc
  have hall' : ∀ i : Fin 32, ∃ j : Fin 32, sel2 c y (ix2 t i) = BitVec.ofNat 32 (p j).val ∧ vals2 c y (ix2 t i) = simsOf x k (ix2 t (p j)) := by
    intro i
    obtain ⟨q, hq, hs, hv⟩ := hall i.val i.isLt
    obtain ⟨g, hg⟩ := hw q
    rw [k2_pay2_id, hy q g hg] at hq hv
    obtain ⟨j, rfl⟩ := (h.2 g).mp hq
    exact ⟨j, hs.symm.trans hg, hv⟩
  choose σ hσ using hall'
  have hσi : Function.Injective σ := fun i j e => by
    have : sel2 c y (ix2 t i) = sel2 c y (ix2 t j) := by rw [(hσ i).1, (hσ j).1, e]
    exact Fin.ext (hinj (by simp) (by simp) this)
  exact ⟨Equiv.ofBijective σ (Finite.injective_iff_bijective.mp hσi), hσ⟩

end Cert.KernelIdeal.Run
-- ==== Proof.Value.RefHead.lean ====
module

public import proofs.«01_k».proof.Proof.Gen.ReferenceIdeal.Read
public import proofs.«01_k».proof.Proof.Value.Row
public import proofs.«01_k».proof.Proof.Value.Words
public import Idealize.ShloMosaic.Lib.Pointwise

/-! The reference's head, at an index: the two linear maps, the mean and variance between them, and the positive part. -/

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo

/-- The number of columns is positive. -/
theorem cols_pos : (0 : EReal) < Ideal.ofBits FTy.f32 1124073472#32 := by
  have h : Ideal.ofBits FTy.f32 1124073472#32 = ((128 : ℝ) : EReal) := by
    simp [Ideal.ofBits, Ideal.ieee, -EReal.coe_mul]; norm_num
  rw [h]
  exact_mod_cast (by norm_num : (0 : ℝ) < 128)

/-- The first linear map. -/
theorem v24_apply (x0 : Vec Ideal S2x512x128 .f32) (x1 x2 : Vec Ideal S65536x128 .f32) (x3 : Vec Ideal S128x128 .f32) (x4 : Vec Ideal S128 .f32) (a : Fin 2) (b : Fin 512) (j : Fin 128) :
    val_main_v24 (F := Ideal) x0 x1 x2 x3 x4 (ix3 a b j) = Row.lin (fun d => val_main_v20 (F := Ideal) x0 x1 x2 (ix3 a b d)) (fun a b => x3 (ix2 a b)) (fun j => x4 (ix1 j)) j := by
  unfold val_main_v24 val_main_v21 val_main_v23 val_main_v22
  pointwise []
  rfl

/-- The variance. -/
theorem v29_apply (x0 : Vec Ideal S2x512x128 .f32) (x1 x2 : Vec Ideal S65536x128 .f32) (x3 : Vec Ideal S128x128 .f32) (x4 : Vec Ideal S128 .f32) (a : Fin 2) (b : Fin 512) :
    val_main_v29 (F := Ideal) x0 x1 x2 x3 x4 (ix3 a b (0 : Fin 1)) = Row.var (fun j => val_main_v24 (F := Ideal) x0 x1 x2 x3 x4 (ix3 a b j)) := by
  unfold val_main_v29 val_main_call1_call0_v1 val_main_call1_call0_v0 val_main_call1_cst_4 val_main_call1_v13 val_main_call1_cst_3 val_main_call1_v12 val_main_call1_v11 val_main_call1_v10 val_main_call1_v9 val_main_call1_cst_2 val_main_call1_v8 val_main_call1_cst_1 val_main_call1_v7 val_main_call1_v6 val_main_call1_v5 val_main_call1_v4 val_main_call1_v3 val_main_call1_v2 val_main_call1_cst_0 val_main_call1_v1 val_main_call1_v0 val_main_call1_cst val_main_c
  pointwise []
  have h0 : FloatOps.sitofp (F := Ideal) FTy.f32 0#32 = 0 := by rw [Words.sitofp_def]; simp
  rw [h0, sub_zero, if_pos cols_pos]
  rfl

/-- The result. -/
theorem v47_apply (x0 : Vec Ideal S2x512x128 .f32) (x1 x2 : Vec Ideal S65536x128 .f32) (x3 : Vec Ideal S128x128 .f32) (x4 x5 x6 : Vec Ideal S128 .f32) (x7 : Vec Ideal S128x128 .f32)
    (x8 : Vec Ideal S128 .f32) (a : Fin 2) (b : Fin 512) (j : Fin 128) :
    val_main_v47 (F := Ideal) x0 x1 x2 x3 x4 x5 x6 x7 x8 (ix3 a b j) = Row.head (fun d => val_main_v20 (F := Ideal) x0 x1 x2 (ix3 a b d)) (fun a b => x3 (ix2 a b)) (fun j => x4 (ix1 j))
      (fun j => x5 (ix1 j)) (fun j => x6 (ix1 j)) (fun a b => x7 (ix2 a b)) (fun j => x8 (ix1 j)) j := by
  unfold val_main_v47 val_main_v46 val_main_v45 val_main_v44 val_main_v43 val_main_call2_v0 val_main_call2_cst val_main_v42 val_main_v41 val_main_v40 val_main_v39 val_main_v38 val_main_v37 val_main_v36 val_main_v35 val_main_v34 val_main_v33 val_main_v32 val_main_cst_5 val_main_v31 val_main_v30 val_main_v28 val_main_v27 val_main_cst_4 val_main_v26 val_main_v25 val_main_cst_3
  pointwise []
  simp only [v29_apply, v24_apply]
  rfl

end Cert.ReferenceIdeal.Read
-- ==== Proof.Value.RefGather.lean ====
module

public import proofs.«01_k».proof.Proof.Gen.ReferenceIdeal.Read
public import proofs.«01_k».proof.Proof.Value.Words
public import Idealize.ShloMosaic.Lib.ValueIdx
public import Idealize.ShloMosaic.Lib.Pointwise

/-! The gathers of this program, read at an index whose start word is a row number in range. -/

@[expose] public section

set_option maxRecDepth 16384

noncomputable section

namespace Cert.ReferenceIdeal

open Idealize.ShloMosaic Cert.ReferenceIdeal Cert.ReferenceIdeal.Gen

variable {α : Type}

/-- A word in range, read signed and clamped, is itself. -/
theorem clamp_word (n N : ℕ) (hn : n < N) (hN : N < 2 ^ 31) : min (BitVec.ofNat 32 n).toInt.toNat (N - 1) = n := by
  rw [Words.toInt_word (a := n) (by omega)]
  show min n (N - 1) = n
  omega

/-- An element of a recalled row. -/
theorem take_rows_apply (x : S65536x128.Idx → α) (idx : IVec S1024x32x1 32) (t : Fin 1024) (k : Fin 32) (d : Fin 128) (n : ℕ) (hn : n < 65536) (h : idx (ix3 t k (0 : Fin 1)) = BitVec.ofNat 32 n) :
    Host.gather gather_S65536x128_S1024x32x1_S1024x32x128_2_0_n_n_0_2_1128 x idx (ix3 t k d) = x (ix2 (⟨n, hn⟩ : Fin 65536) d) := by
  unfold Host.gather
  congr 1
  funext a
  refine Fin.ext ?_
  show gather_S65536x128_S1024x32x1_S1024x32x128_2_0_n_n_0_2_1128.start (ix3 t k d) idx a + gather_S65536x128_S1024x32x1_S1024x32x128_2_0_n_n_0_2_1128.batchCoord (ix3 t k d) a + gather_S65536x128_S1024x32x1_S1024x32x128_2_0_n_n_0_2_1128.offCoord (ix3 t k d) a = _
  match a with
  | ⟨0, _⟩ =>
    show gather_S65536x128_S1024x32x1_S1024x32x128_2_0_n_n_0_2_1128.start (ix3 t k d) idx (0 : Fin 2) + gather_S65536x128_S1024x32x1_S1024x32x128_2_0_n_n_0_2_1128.batchCoord (ix3 t k d) (0 : Fin 2) + gather_S65536x128_S1024x32x1_S1024x32x128_2_0_n_n_0_2_1128.offCoord (ix3 t k d) (0 : Fin 2) = n
    rw [GatherDims.batchCoord_eq_zero _ _ _ (by decide), GatherDims.offCoord_eq_zero _ _ _ (by decide)]
    simp only [Nat.add_zero]
    unfold GatherDims.start
    rw [dif_pos (show (0 : Fin 2) ∈ gather_S65536x128_S1024x32x1_S1024x32x128_2_0_n_n_0_2_1128.startIndexMap from List.mem_singleton.mpr rfl)]
    have hsi : gather_S65536x128_S1024x32x1_S1024x32x128_2_0_n_n_0_2_1128.siIdx (ix3 t k d) ⟨List.idxOf (0 : Fin 2) gather_S65536x128_S1024x32x1_S1024x32x128_2_0_n_n_0_2_1128.startIndexMap,
        List.idxOf_lt_length_iff.2 (List.mem_singleton.mpr rfl)⟩ = ix3 t k (0 : Fin 1) := by
      funext b; refine Fin.ext ?_
      match b with
      | ⟨0, _⟩ => rfl
      | ⟨1, _⟩ => rfl
      | ⟨2, _⟩ => rfl
    rw [hsi, h]
    exact clamp_word n 65536 hn (by omega)
  | ⟨1, _⟩ =>
    show gather_S65536x128_S1024x32x1_S1024x32x128_2_0_n_n_0_2_1128.start (ix3 t k d) idx (1 : Fin 2) + gather_S65536x128_S1024x32x1_S1024x32x128_2_0_n_n_0_2_1128.batchCoord (ix3 t k d) (1 : Fin 2) + gather_S65536x128_S1024x32x1_S1024x32x128_2_0_n_n_0_2_1128.offCoord (ix3 t k d) (1 : Fin 2) = _
    rw [GatherDims.batchCoord_eq_zero _ _ _ (by decide)]
    unfold GatherDims.start GatherDims.offCoord
    rw [dif_neg (by decide), dif_pos (by decide)]
    simp only [Nat.zero_add, Nat.add_zero]
    rfl

end Cert.ReferenceIdeal
-- ==== Proof.Value.TopRow.lean ====
module

public import Idealize.ShloMosaic.PureOps.Ideal.Laws
public import Idealize.ShloMosaic.Lib.Pointwise
public import Idealize.ShloMosaic.Lib.SortFacts

/-! The greatest entries of a row. `place x t` lists a row's columns by their entries, greatest first: a bijection along which the
entries never increase. The first columns of that list are what `topK` returns. -/

@[expose] public section

noncomputable section

namespace Cert.TopRow

open Idealize.ShloMosaic

/-- 1024 rows of `K` entries. -/
abbrev Rows (K : ℕ) : Shape := ⟨2, ![1024, K]⟩

/-- A row's columns, greatest entry first. -/
def place (x : (Rows 65536).Idx → EReal) (t : Fin 1024) : Fin 65536 → Fin 65536 :=
  sortedFrom fun k k' => Ideal.cmpTotal .gt (x (ix2 t k)) (x (ix2 t k')) == 1#1

/-- The entry of a row at another column. -/
theorem along_eq (t : Fin 1024) (q k : Fin 65536) : Shape.Idx.along (ix2 t q : (Rows 65536).Idx) (1 : Fin 2) k = ix2 t k := by
  funext a
  match a with
  | ⟨0, _⟩ => rfl
  | ⟨1, _⟩ => rfl

/-- The order of a row, as the sort computes it, is `place`. -/
theorem place_eq (x : (Rows 65536).Idx → EReal) (t : Fin 1024) (q : Fin 65536) :
    sortedFrom (fun k k' => FloatOps.cmpfTotal (F := Ideal) (φ := .f32) .gt (x (Shape.Idx.along (ix2 t q : (Rows 65536).Idx) (1 : Fin 2) k))
      (x (Shape.Idx.along (ix2 t q : (Rows 65536).Idx) (1 : Fin 2) k')) == 1#1) q = place x t q := by
  have e : ∀ k, Shape.Idx.along (ix2 t q : (Rows 65536).Idx) (1 : Fin 2) k = ix2 t k := along_eq t q
  simp only [e]
  rfl

/-- A sort of the rows, greatest first, carrying a second array: each entry comes from its listed column. -/
theorem sort_row {β : Type} (x : (Rows 65536).Idx → EReal) (y : (Rows 65536).Idx → β) (t : Fin 1024) (q : Fin 65536) :
    (Host.sort2 (Rows 65536) 1 (fun l r => FloatOps.cmpfTotal (F := Ideal) (φ := .f32) .gt l.1 r.1) x y).1 (ix2 t q) = x (ix2 t (place x t q))
      ∧ (Host.sort2 (Rows 65536) 1 (fun l r => FloatOps.cmpfTotal (F := Ideal) (φ := .f32) .gt l.1 r.1) x y).2 (ix2 t q) = y (ix2 t (place x t q)) := by
  unfold Host.sort2
  rw [dif_pos (show 1 < (Rows 65536).rank by decide)]
  have h := (along_eq t q _).trans (congrArg (fun k => (ix2 t k : (Rows 65536).Idx)) (place_eq x t q))
  exact ⟨congrArg x h, congrArg y h⟩

/-- The first columns of an array. -/
theorem first_apply {β : Type} (K : ℕ) (hK : K ≤ 65536) (y : (Rows 65536).Idx → β) (h : (Rows 65536).Slices (fun _ => 0) (Rows K)) (t : Fin 1024) (k : Fin K) :
    extractStridedSlice (Rows K) (fun _ => 0) y h (ix2 t k) = y (ix2 t (⟨k.val, by omega⟩ : Fin 65536)) :=
  extractStridedSlice_apply _ y h _ _ fun a => match a with
    | ⟨0, _⟩ => by simp [ix2]
    | ⟨1, _⟩ => by simp [ix2]

/-- The columns' numbers as words. -/
abbrev colWords : IVec (Rows 65536) 32 := fun i => if hd : 1 < (Rows 65536).rank then iotaInDim (Rows 65536) 32 ⟨1, hd⟩ i else 0#32

/-- The values that `topK` returns, -/
theorem topK_values (K : ℕ) (hK : K ≤ 65536) (x : (Rows 65536).Idx → EReal) (h : (Rows 65536).Slices (fun _ => 0) (Rows K)) (t : Fin 1024) (k : Fin K) :
    (Host.topK (Rows K) 1 (FloatOps.cmpfTotal (F := Ideal) (φ := .f32) .gt) x h).1 (ix2 t k) = x (ix2 t (place x t ⟨k.val, by omega⟩)) := by
  unfold Host.topK
  exact (first_apply K hK _ h t k).trans (sort_row x colWords t _).1

/-- and their columns. -/
theorem topK_indices (K : ℕ) (hK : K ≤ 65536) (x : (Rows 65536).Idx → EReal) (h : (Rows 65536).Slices (fun _ => 0) (Rows K)) (t : Fin 1024) (k : Fin K) :
    (Host.topK (Rows K) 1 (FloatOps.cmpfTotal (F := Ideal) (φ := .f32) .gt) x h).2 (ix2 t k) = BitVec.ofNat 32 (place x t ⟨k.val, by omega⟩).val := by
  unfold Host.topK
  refine ((first_apply K hK _ h t k).trans (sort_row x colWords t _).2).trans ?_
  generalize place x t ⟨k.val, _⟩ = g
  exact (dif_pos (show 1 < (Rows 65536).rank by decide)).trans rfl

/-- The comparison, as a statement. -/
theorem gt_iff (a b : EReal) : (Ideal.cmpTotal .gt a b == 1#1) = true ↔ b < a := by
  unfold Ideal.cmpTotal
  by_cases h : b < a <;> simp [Ideal.cmp, CmpDirection.ordered, h]

/-- Along the list the entries never increase. -/
theorem place_le (x : (Rows 65536).Idx → EReal) (t : Fin 1024) (i j : Fin 65536) (hij : i ≤ j) : x (ix2 t (place x t j)) ≤ x (ix2 t (place x t i)) := by
  rcases Nat.lt_or_ge i.val j.val with h | h
  · let B : Fin 65536 → Fin 65536 → Bool := fun k k' => Ideal.cmpTotal .gt (x (ix2 t k)) (x (ix2 t k')) == 1#1
    have hB : ∀ a b, B a b = true ↔ x (ix2 t b) < x (ix2 t a) := fun a b => gt_iff _ _
    have hB' : ∀ a b, B a b = false ↔ x (ix2 t a) ≤ x (ix2 t b) := fun a b => by
      rw [← Bool.not_eq_true, hB, not_lt]
    have := sortedFrom_noInversion B B (fun a b hab => (hB' b a).mpr ((hB a b).mp hab).le) (fun a b hab => hab)
      (fun a b c hab hbc => (hB' a c).mpr (((hB' a b).mp hab).trans ((hB' b c).mp hbc))) i j h
    exact (hB' _ _).mp this
  · have : i = j := Fin.ext (Nat.le_antisymm hij h)
    rw [this]

/-- No column is listed twice -/
theorem place_injective (x : (Rows 65536).Idx → EReal) (t : Fin 1024) : Function.Injective (place x t) := sortedFrom_injective _

/-- and none is missing. -/
theorem place_surjective (x : (Rows 65536).Idx → EReal) (t : Fin 1024) : Function.Surjective (place x t) := sortedFrom_surjective _

/-- Where the entry at place 31 is above the entry at place 32, the entries that reach it are those at the first 32 places. -/
theorem reach_iff (x : (Rows 65536).Idx → EReal) (t : Fin 1024) (h : x (ix2 t (place x t ⟨32, by omega⟩)) < x (ix2 t (place x t ⟨31, by omega⟩))) (g : Fin 65536) :
    x (ix2 t (place x t ⟨31, by omega⟩)) ≤ x (ix2 t g) ↔ ∃ k : Fin 32, place x t ⟨k.val, by omega⟩ = g := by
  constructor
  · intro hg
    obtain ⟨i, rfl⟩ := place_surjective x t g
    rcases Nat.lt_or_ge i.val 32 with hi | hi
    · exact ⟨⟨i.val, hi⟩, rfl⟩
    · exact absurd (hg.trans (place_le x t ⟨32, by omega⟩ i hi)) (not_le.mpr h)
  · rintro ⟨k, rfl⟩
    exact place_le x t _ _ (Fin.mk_le_mk.mpr (by omega))

end Cert.TopRow
-- ==== Proof.Value.RefRow.lean ====
module

public import proofs.«01_k».proof.Proof.Gen.ReferenceIdeal.Read
public import proofs.«01_k».proof.Proof.Value.Row
public import proofs.«01_k».proof.Proof.Value.Words
public import proofs.«01_k».proof.Proof.Value.RefGather
public import proofs.«01_k».proof.Proof.Value.TopRow
public import Idealize.ShloMosaic.Lib.Pointwise

/-! The reference before its head, at an index: the similarities, the first 32 of each row, their weights, the recalled rows and
the row with these added. -/

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo

/-- The row with the recalled rows added. -/
theorem v20_apply (x0 : Vec Ideal S2x512x128 .f32) (x1 x2 : Vec Ideal S65536x128 .f32) (a : Fin 2) (b : Fin 512) (j : Fin 128) :
    val_main_v20 (F := Ideal) x0 x1 x2 (ix3 a b j) = Row.fused (fun d => x0 (ix3 a b d)) (fun k d => val_main_v3 (F := Ideal) x0 x1 x2 (ix3 (⟨a.val * 512 + b.val, by omega⟩ : Fin 1024) k d))
      (fun k => val_main_v14 (F := Ideal) x0 x1 (ix2 (⟨a.val * 512 + b.val, by omega⟩ : Fin 1024) k)) j := by
  unfold val_main_v20 val_main_v19 val_main_v18 val_main_v17 val_main_v16 val_main_v15 val_main_v0 val_main_cst_2
  pointwise []
  rfl

/-- The weights, of the values found. -/
theorem v14_apply (x0 : Vec Ideal S2x512x128 .f32) (x1 : Vec Ideal S65536x128 .f32) (t : Fin 1024) (k : Fin 32) :
    val_main_v14 (F := Ideal) x0 x1 (ix2 t k) = Row.soft (fun k => val_main_values (F := Ideal) x0 x1 (ix2 t k)) k := by
  unfold val_main_v14 val_main_v13 val_main_v12 val_main_v11 val_main_cst_1 val_main_v10 val_main_v9 val_main_v8 val_main_v7 val_main_v6 val_main_v5 val_main_cst_0 val_main_v4 val_main_cst
  pointwise []
  rfl

/-- The similarities. -/
theorem v2_apply (x0 : Vec Ideal S2x512x128 .f32) (x1 : Vec Ideal S65536x128 .f32) (t : Fin 1024) (g : Fin 65536) :
    val_main_v2 (F := Ideal) x0 x1 (ix2 t g) = ∑ d, val_main_v0 (F := Ideal) x0 (ix2 t d) * x1 (ix2 g d) := by
  unfold val_main_v2 val_main_v1
  pointwise []

/-- The value at place `k`. -/
theorem values_apply (x0 : Vec Ideal S2x512x128 .f32) (x1 : Vec Ideal S65536x128 .f32) (t : Fin 1024) (k : Fin 32) :
    val_main_values (F := Ideal) x0 x1 (ix2 t k) = val_main_v2 (F := Ideal) x0 x1 (ix2 t (TopRow.place (val_main_v2 (F := Ideal) x0 x1) t ⟨k.val, by omega⟩)) := by
  unfold val_main_values
  exact TopRow.topK_values 32 (by omega) _ _ t k

/-- The column at place `k`. -/
theorem indices_apply (x0 : Vec Ideal S2x512x128 .f32) (x1 : Vec Ideal S65536x128 .f32) (t : Fin 1024) (k : Fin 32) :
    val_main_indices (F := Ideal) x0 x1 (ix2 t k) = BitVec.ofNat 32 (TopRow.place (val_main_v2 (F := Ideal) x0 x1) t ⟨k.val, by omega⟩).val := by
  unfold val_main_indices
  exact TopRow.topK_indices 32 (by omega) _ _ t k

/-- The row taken, which is the column's number. -/
theorem row_taken (x0 : Vec Ideal S2x512x128 .f32) (x1 : Vec Ideal S65536x128 .f32) (t : Fin 1024) (k : Fin 32) (n : ℕ) (hn : n < 65536)
    (h : val_main_indices (F := Ideal) x0 x1 (ix2 t k) = BitVec.ofNat 32 n) (x : Fin 1) :
    val_main_call0_v5 (F := Ideal) x0 x1 (ix3 t k x) = BitVec.ofNat 32 n := by
  unfold val_main_call0_v5 val_main_call0_v4 val_main_call0_v3 val_main_call0_v2 val_main_call0_c_0 val_main_call0_v1 val_main_call0_v0 val_main_call0_c
  pointwise []
  simp only [h]
  rw [Words.slt_zero (by omega)]
  rfl

/-- The recalled row at place `k`. -/
theorem v3_apply (x0 : Vec Ideal S2x512x128 .f32) (x1 x2 : Vec Ideal S65536x128 .f32) (t : Fin 1024) (k : Fin 32) (d : Fin 128) (n : ℕ) (hn : n < 65536)
    (h : val_main_indices (F := Ideal) x0 x1 (ix2 t k) = BitVec.ofNat 32 n) :
    val_main_v3 (F := Ideal) x0 x1 x2 (ix3 t k d) = x2 (ix2 (⟨n, hn⟩ : Fin 65536) d) := by
  have hb : Finset.fold IntOp.andi 1#1 (fun _ : Fin 1 => IntOp.andi (IntOp.cmpi .sge (BitVec.ofNat 32 n) 0#32) (IntOp.cmpi .sle (BitVec.ofNat 32 n) 65535#32)) Finset.univ = 1#1 := by
    have e1 : IntOp.cmpi .sge (BitVec.ofNat 32 n) 0#32 = 1#1 := by
      have : (0#32).sle (BitVec.ofNat 32 n) = true := by
        rw [BitVec.sle_eq_decide, Words.toInt_word (a := n) (by omega)]
        simp
      simp [IntOp.cmpi, this]
    have e2 : IntOp.cmpi .sle (BitVec.ofNat 32 n) 65535#32 = 1#1 := by
      have : (BitVec.ofNat 32 n).sle 65535#32 = true := by
        rw [BitVec.sle_eq_decide, Words.toInt_word (a := n) (by omega)]
        have : (65535#32).toInt = 65535 := by decide
        rw [this]
        simp
        omega
      simp [IntOp.cmpi, this]
    rw [e1, e2]
    decide
  unfold val_main_v3 val_main_call0_v15 val_main_call0_cst val_main_call0_v14 val_main_call0_v12 val_main_call0_c_3 val_main_call0_v11 val_main_call0_v10 val_main_call0_v9 val_main_call0_v8 val_main_call0_v7 val_main_call0_v6
  pointwise []
  simp only [row_taken x0 x1 t k n hn h]
  unfold val_main_call0_v13
  refine (congrArg (fun c => Scalar.select c _ _) hb).trans ?_
  refine Eq.trans rfl (take_rows_apply x2 _ t k d n hn (row_taken x0 x1 t k n hn h 0))

end Cert.ReferenceIdeal.Read
-- ==== Proof.Value.Pre.lean ====
module

public import proofs.«01_k».proof.Proof.Gen.Pre_top32_decided
public import proofs.«01_k».proof.Proof.Value.TopRow
public import proofs.«01_k».proof.Proof.Value.RefRow

/-! The precondition, read at a row: the entry at place 31 is above the entry at place 32. -/

@[expose] public section

set_option maxRecDepth 16384

noncomputable section

namespace Cert.Pre_top32_decided

open Cert.Pre_top32_decided.Gen Idealize.ShloMosaic Cert.ReferenceIdeal.Read

/-- The precondition's comparison at row `t`. -/
theorem decided (x0 : FVec Ideal S2x512x128 .f32) (x1 x2 : FVec Ideal S65536x128 .f32) (x3 : FVec Ideal S128x128 .f32) (x4 x5 x6 : FVec Ideal S128 .f32)
    (x7 : FVec Ideal S128x128 .f32) (x8 : FVec Ideal S128 .f32) (h : fn (F := Ideal) x0 x1 x2 x3 x4 x5 x6 x7 x8 = fun _ => 1#1) (t : Fin 1024) :
    val_main_v2 (F := Ideal) x0 x1 (ix2 t (TopRow.place (val_main_v2 (F := Ideal) x0 x1) t ⟨32, by omega⟩))
      < val_main_v2 (F := Ideal) x0 x1 (ix2 t (TopRow.place (val_main_v2 (F := Ideal) x0 x1) t ⟨31, by omega⟩)) := by
  have h' := congrFun h (ix1 t)
  unfold fn at h'
  change cmpf .ogt (shapeCast S1024 (extractStridedSlice S1024x1 ![0, 31] (Host.topK S1024x33 1 (FloatOps.cmpfTotal (F := Ideal) (φ := .f32) .gt) (val_main_v2 (F := Ideal) x0 x1) _).1 _) _)
    (shapeCast S1024 (extractStridedSlice S1024x1 ![0, 32] (Host.topK S1024x33 1 (FloatOps.cmpfTotal (F := Ideal) (φ := .f32) .gt) (val_main_v2 (F := Ideal) x0 x1) _).1 _) _) (ix1 t) = 1#1 at h'
  have e1 := TopRow.topK_values 33 (by omega) (val_main_v2 (F := Ideal) x0 x1) Facts.sliceFits_S1024x65536_S1024x33 t ⟨31, by omega⟩
  have e2 := TopRow.topK_values 33 (by omega) (val_main_v2 (F := Ideal) x0 x1) Facts.sliceFits_S1024x65536_S1024x33 t ⟨32, by omega⟩
  rw [← e1, ← e2]
  generalize (Host.topK (TopRow.Rows 33) 1 (FloatOps.cmpfTotal (F := Ideal) (φ := .f32) .gt) (val_main_v2 (F := Ideal) x0 x1) Facts.sliceFits_S1024x65536_S1024x33).1 = y at h' ⊢
  pointwise [] at h'
  by_contra hc
  rw [decide_eq_false (show ¬ y (ix2 t 32) < y (ix2 t 31) from hc)] at h'
  exact absurd h' (by decide)

end Cert.Pre_top32_decided
-- ==== Proof.Value.Result.lean ====
module

public import proofs.«01_k».proof.Proof.Value.Carry
public import proofs.«01_k».proof.Proof.Value.Stages
public import proofs.«01_k».proof.Proof.Value.RefHead
public import proofs.«01_k».proof.Proof.Value.RefRow
public import proofs.«01_k».proof.Proof.Value.Pre

/-! The two results are one array: row by row both are the head of the token with the 32 recalled rows added, the kernel taking
these rows in another order. -/

@[expose] public section

set_option maxRecDepth 16384

noncomputable section

namespace Cert.KernelIdeal.Run

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The kernel's similarities are the reference's. -/
theorem simsArr_eq : simsArr m c = Cert.ReferenceIdeal.Read.val_main_v2 (F := Ideal) (arg m c main_arg0) (arg m c main_arg1) := by
  funext i
  rw [eq_ix2 i]
  exact (simsOf_apply _ _ _ _).trans (Cert.ReferenceIdeal.Read.v2_apply (arg m c main_arg0) (arg m c main_arg1) (i 0) (i 1)).symm

/-- The precondition at row `t`: the entry at place 31 is above the entry at place 32. -/
def Decided (t : Fin 1024) : Prop :=
  simsArr m c (ix2 t (TopRow.place (simsArr m c) t ⟨32, by omega⟩)) < simsArr m c (ix2 t (TopRow.place (simsArr m c) t ⟨31, by omega⟩))

/-- The first 32 columns of a row. -/
def firstCols (t : Fin 1024) (i : Fin 32) : Fin 65536 := TopRow.place (simsArr m c) t ⟨i.val, by omega⟩

/-- They are different columns. -/
theorem firstCols_injective (t : Fin 1024) : Function.Injective (firstCols m c t) := fun i j e =>
  Fin.ext (by simpa using congrArg Fin.val (TopRow.place_injective _ _ e))

variable {m c}

/-- The kernel selects the row's first 32 columns. -/
theorem selected (t : Fin 1024) (h : Decided m c t) :
    ∃ σ : Fin 32 ≃ Fin 32, ∀ i, selArr m c (ix2 t i) = BitVec.ofNat 32 (firstCols m c t (σ i)).val ∧ valArr m c (ix2 t i) = simsArr m c (ix2 t (firstCols m c t (σ i))) := by
  have hl : Lists (tokRows m c) (arg m c main_arg1) t (firstCols m c t) (simsArr m c (ix2 t (TopRow.place (simsArr m c) t ⟨31, by omega⟩))) :=
    ⟨lt_of_le_of_lt bot_le h, fun g => TopRow.reach_iff (simsArr m c) t h g⟩
  have hw1 : ∀ q, ∃ n : Fin 4096, candArr m c (ix2 t q) = BitVec.ofNat 32 (t.val * 4096 + n.val) := cand_word t (runningArr m c)
  have hw2 : ∀ q, ∃ g : Fin 65536, colArr m c (ix2 t q) = BitVec.ofNat 32 g.val := col_word t (candArr m c) (takenArr m c) hw1
  exact listed_taken hl (firstCols_injective m c t) hw2 (fun q g hg => along_apply (simsArr m c) (colArr m c) t q g hg)
    (cols_taken hl hw1 (fun q n hn => taken_apply (groupsArr m c) (candArr m c) t q t n hn) (cands_taken hl))

/-- A row of the kernel's head. -/
theorem headArr_apply (a : Fin 2) (b : Fin 512) (h : Decided m c ⟨a.val * 512 + b.val, by omega⟩) (j : Fin 128) :
    headArr m c (ix2 (⟨a.val * 512 + b.val, by omega⟩ : Fin 1024) j)
      = Row.head (Row.fused (fun d => arg m c main_arg0 (ix3 a b d)) (fun i d => arg m c main_arg2 (ix2 (firstCols m c ⟨a.val * 512 + b.val, by omega⟩ i) d))
          (Row.soft fun i => simsArr m c (ix2 (⟨a.val * 512 + b.val, by omega⟩ : Fin 1024) (firstCols m c ⟨a.val * 512 + b.val, by omega⟩ i))))
        (fun d j => arg m c main_arg3 (ix2 d j)) (fun j => arg m c main_arg4 (ix1 j)) (fun j => arg m c main_arg5 (ix1 j)) (fun j => arg m c main_arg6 (ix1 j))
        (fun d j => arg m c main_arg7 (ix2 d j)) (fun j => arg m c main_arg8 (ix1 j)) j := by
  obtain ⟨σ, hσ⟩ := selected _ h
  have e4 : (fun j => shapeCast S1x128 (arg m c main_arg4) shapeCasts_S128_S1x128 (ix2 (0 : Fin 1) j)) = fun j => arg m c main_arg4 (ix1 j) := funext fun j => bias_apply _ j
  have e5 : (fun j => shapeCast S1x128 (arg m c main_arg5) shapeCasts_S128_S1x128 (ix2 (0 : Fin 1) j)) = fun j => arg m c main_arg5 (ix1 j) := funext fun j => bias_apply _ j
  have e6 : (fun j => shapeCast S1x128 (arg m c main_arg6) shapeCasts_S128_S1x128 (ix2 (0 : Fin 1) j)) = fun j => arg m c main_arg6 (ix1 j) := funext fun j => bias_apply _ j
  have e8 : (fun j => shapeCast S1x128 (arg m c main_arg8) shapeCasts_S128_S1x128 (ix2 (0 : Fin 1) j)) = fun j => arg m c main_arg8 (ix1 j) := funext fun j => bias_apply _ j
  have e0 : (fun d => tokRows m c (ix2 (⟨a.val * 512 + b.val, by omega⟩ : Fin 1024) d)) = fun d => arg m c main_arg0 (ix3 a b d) := funext fun d => rows_apply _ a b d
  have eM : (fun (i : Fin 32) (d : Fin 128) => memArr m c (ix2 (⟨(a.val * 512 + b.val) * 32 + i.val, by omega⟩ : Fin 32768) d))
      = fun i d => arg m c main_arg2 (ix2 (firstCols m c ⟨a.val * 512 + b.val, by omega⟩ (σ i)) d) :=
    funext fun i => funext fun d => mem_apply (arg m c main_arg2) (selArr m c) ⟨a.val * 512 + b.val, by omega⟩ i d _ (hσ i).1
  have eW : (fun i => k3_pay9 (F := Ideal) (valArr m c) (ix2 (⟨a.val * 512 + b.val, by omega⟩ : Fin 1024) i))
      = fun i => Row.soft (fun i => simsArr m c (ix2 (⟨a.val * 512 + b.val, by omega⟩ : Fin 1024) (firstCols m c ⟨a.val * 512 + b.val, by omega⟩ i))) (σ i) := by
    funext i
    rw [soft_apply, ← Row.soft_perm]
    exact congrArg (fun v => Row.soft v i) (funext fun i => (hσ i).2)
  have eF : ∀ (tok : Fin 128 → EReal) (mem : Fin 32 → Fin 128 → EReal) (w : Fin 32 → EReal), Row.fused tok mem w = Row.fused tok (fun k => mem (σ k)) (fun k => w (σ k)) :=
    fun tok mem w => funext fun d => (Row.fused_perm σ tok mem w d).symm
  rw [eF]
  beta_reduce
  rw [← eM, ← eW, ← e0, ← e4, ← e5, ← e6, ← e8]
  rfl

/-- The two results agree at an index. -/
theorem result_apply (a : Fin 2) (b : Fin 512) (h : Decided m c ⟨a.val * 512 + b.val, by omega⟩) (j : Fin 128) :
    shapeCast S2x512x128 (headArr m c) shapeCasts_S1024x128_S2x512x128 (ix3 a b j)
      = Cert.ReferenceIdeal.Read.val_main_v47 (F := Ideal) (arg m c main_arg0) (arg m c main_arg1) (arg m c main_arg2) (arg m c main_arg3) (arg m c main_arg4)
        (arg m c main_arg5) (arg m c main_arg6) (arg m c main_arg7) (arg m c main_arg8) (ix3 a b j) := by
  rw [res_apply, headArr_apply a b h j, Cert.ReferenceIdeal.Read.v47_apply]
  refine congrArg (fun f => Row.head f _ _ _ _ _ _ j) (funext fun d => ?_)
  rw [Cert.ReferenceIdeal.Read.v20_apply]
  have eS := simsArr_eq m c
  have eM : (fun (i : Fin 32) (d : Fin 128) => Cert.ReferenceIdeal.Read.val_main_v3 (F := Ideal) (arg m c main_arg0) (arg m c main_arg1) (arg m c main_arg2)
      (ix3 (⟨a.val * 512 + b.val, by omega⟩ : Fin 1024) i d)) = fun i d => arg m c main_arg2 (ix2 (firstCols m c ⟨a.val * 512 + b.val, by omega⟩ i) d) := by
    funext i d
    unfold firstCols
    rw [eS]
    have key : ∀ g : Fin 65536, Cert.ReferenceIdeal.Read.val_main_indices (F := Ideal) (arg m c main_arg0) (arg m c main_arg1) (ix2 (⟨a.val * 512 + b.val, by omega⟩ : Fin 1024) i)
        = BitVec.ofNat 32 g.val → Cert.ReferenceIdeal.Read.val_main_v3 (F := Ideal) (arg m c main_arg0) (arg m c main_arg1) (arg m c main_arg2)
          (ix3 (⟨a.val * 512 + b.val, by omega⟩ : Fin 1024) i d) = arg m c main_arg2 (ix2 g d) :=
      fun g hg => Cert.ReferenceIdeal.Read.v3_apply (arg m c main_arg0) (arg m c main_arg1) (arg m c main_arg2) _ i d g.val g.isLt hg
    exact key _ (Cert.ReferenceIdeal.Read.indices_apply (arg m c main_arg0) (arg m c main_arg1) _ i)
  have eW : (fun i => Cert.ReferenceIdeal.Read.val_main_v14 (F := Ideal) (arg m c main_arg0) (arg m c main_arg1) (ix2 (⟨a.val * 512 + b.val, by omega⟩ : Fin 1024) i))
      = Row.soft fun i => simsArr m c (ix2 (⟨a.val * 512 + b.val, by omega⟩ : Fin 1024) (firstCols m c ⟨a.val * 512 + b.val, by omega⟩ i)) := by
    funext i
    rw [Cert.ReferenceIdeal.Read.v14_apply]
    refine congrArg (fun v => Row.soft v i) (funext fun i => ?_)
    unfold firstCols
    rw [eS]
    exact Cert.ReferenceIdeal.Read.values_apply _ _ _ _
  rw [eM, eW]

/-- The two results agree. -/
theorem result_eq (h : ∀ t, Decided m c t) :
    W14 m ρ c (Proc.devRef .tc main_v17)
      = Cert.ReferenceIdeal.Read.val_main_v47 (F := Ideal) (arg m c main_arg0) (arg m c main_arg1) (arg m c main_arg2) (arg m c main_arg3) (arg m c main_arg4)
        (arg m c main_arg5) (arg m c main_arg6) (arg m c main_arg7) (arg m c main_arg8) := by
  rw [W14_v17]
  funext i
  rw [eq_ix3 i]
  exact result_apply (i 0) (i 1) (h _) (i 2)

end Cert.KernelIdeal.Run
-- ==== Proof.lean ====
module

public import proofs.«01_k».proof.Defs
public import proofs.«01_k».proof.Proof.Gen.ReferenceIdeal.Read
public import proofs.«01_k».proof.Proof.Gen.ReferenceIdeal.Run
public import proofs.«01_k».proof.Proof.Gen.Pre_top32_decided
public import proofs.«01_k».proof.Proof.Frames
public import proofs.«01_k».proof.Proof.Value.Result

@[expose] public section

noncomputable section

namespace Cert.Proof

open Idealize.ShloMosaic Idealize.SL.Sem

/-- The precondition, at each row of the similarities. -/
theorem decided (m : (ℓ : Loc Cert.KernelIdeal.nD Cert.KernelIdeal.τ Cert.KernelIdeal.sig) → Buf (Elt Ideal) ℓ) (h : Pre_KernelIdeal_top32_decided m)
    (c : Dev Cert.KernelIdeal.nD) (t : Fin 1024) : Cert.KernelIdeal.Run.Decided m c t := by
  unfold Cert.KernelIdeal.Run.Decided
  rw [Cert.KernelIdeal.Run.simsArr_eq m c]
  exact Cert.Pre_top32_decided.decided _ _ _ _ _ _ _ _ _ (h c) t

/-- Under the precondition both programs end with the same result array. -/
theorem algebraic : algebraic_KernelIdeal_ReferenceIdeal_pre_top32_decided := by
  intro m g m' g' hpre hargs
  refine ⟨fun c => Cert.KernelIdeal.Run.W14 m g c (Proc.devRef .tc Cert.KernelIdeal.main_v17), ?_, ?_⟩
  · refine (θ_run _ _ _).mono (fun _ h c => ?_) (Cert.KernelIdeal.Run.run (F := Ideal) m g)
    obtain ⟨h0, h1, h2, h3, h4, h5, h6, h7, h8, hv⟩ := h.1 c
    exact ⟨hv, h0, h1, h2, h3, h4, h5, h6, h7, h8⟩
  · refine (θ_run _ _ _).mono (fun _ h c => ?_) (Cert.ReferenceIdeal.Value.run (F := Ideal) m' g')
    obtain ⟨hv, hrest⟩ := h c
    refine ⟨hv.trans ?_, hrest⟩
    obtain ⟨h0, h1, h2, h3, h4, h5, h6, h7, h8⟩ := hargs c
    rw [Cert.ReferenceIdeal.Read.val_main_v47_eq, h0, h1, h2, h3, h4, h5, h6, h7, h8]
    exact (Cert.KernelIdeal.Run.result_eq g (decided m hpre c)).symm

theorem claim : Cert.Claim :=
  ⟨Cert.Kernel.Gen.facts, Cert.KernelIdeal.Gen.facts, Cert.ReferenceIdeal.Gen.facts, Cert.Pre_top32_decided.Gen.facts,
    frame_Kernel, frame_KernelIdeal, fun m g _ => frame_KernelIdeal m g trivial, frame_ReferenceIdeal, fun m g _ => frame_ReferenceIdeal m g trivial, trivial, algebraic⟩

end Cert.Proof

end
